-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 1024]⟩ ⟨3, ![4, 256, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 256]⟩ ⟨2, ![256, 1024]⟩ (Layout.meshBlock [2, 4, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S256x256 : Shape := ⟨2, ![256, 256]⟩
abbrev S3x32x256 : Shape := ⟨3, ![3, 32, 256]⟩
abbrev S3 : Shape := ⟨1, ![3]⟩
abbrev S7 : Shape := ⟨1, ![7]⟩
abbrev S_ : Shape := ⟨0, ![]⟩
abbrev S1 : Shape := ⟨1, ![1]⟩
abbrev S1x32x256 : Shape := ⟨3, ![1, 32, 256]⟩
abbrev S32x256 : Shape := ⟨2, ![32, 256]⟩

abbrev nBuf : Space → Nat
  | .hbm => 2
  | .vmem => 3
  | .smem => 0
  | _ => 0

abbrev bufTy : (tb : Table) → Fin (tcTables nBuf tb) → BufTy
  | .hbm, ⟨0, _⟩ => ⟨S1x256x1024, .f32⟩
  | .hbm, ⟨1, _⟩ => ⟨S256x256, .f32⟩
  | .local _ .vmem, ⟨0, _⟩ => ⟨S1x256x1024, .f32⟩
  | .local _ .vmem, ⟨1, _⟩ => ⟨S256x256, .f32⟩
  | .local _ .vmem, ⟨2, _⟩ => ⟨S3x32x256, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_10 : BitVec 32 := 16#32
  let v24 : BitVec 32 := Scalar.muli v2 c16_i32_10
  let v25 : BitVec 32 := Scalar.addi c0_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_12 : BitVec 32 := 4#32
  let v26 : BitVec 32 := Scalar.muli v5 c4_i32_12
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v13 : BitVec 32 := Scalar.addi v8 c1_i32_3
  let c4_i32_4 : BitVec 32 := 4#32
  let c0_i32 : BitVec 32 := 0#32
  let v14 : BitVec 1 := Scalar.cmpi .eq c4_i32_4 c0_i32
  let c1_i32_5 : BitVec 32 := 1#32
  let v15 : BitVec 32 := Scalar.select v14 c1_i32_5 c4_i32_4
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let c1_i32_13 : BitVec 32 := 1#32
  let v28 : BitVec 32 := Scalar.muli v23 c1_i32_13
  let v29 : BitVec 32 := Scalar.addi v27 v28
  v29.toNat
def k0_dev2 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v41 : BitVec 32 := Scalar.muli v2 c16_i32_22
  let v42 : BitVec 32 := Scalar.addi c0_i32_23 v41
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_24 : BitVec 32 := 4#32
  let v43 : BitVec 32 := Scalar.muli v5 c4_i32_24
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v30 : BitVec 32 := Scalar.addi v8 c2_i32_14
  let c4_i32_15 : BitVec 32 := 4#32
  let c0_i32_16 : BitVec 32 := 0#32
  let v31 : BitVec 1 := Scalar.cmpi .eq c4_i32_15 c0_i32_16
  let c1_i32_17 : BitVec 32 := 1#32
  let v32 : BitVec 32 := Scalar.select v31 c1_i32_17 c4_i32_15
  let v33 : BitVec 32 := Scalar.remsi v30 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c1_i32_25 : BitVec 32 := 1#32
  let v45 : BitVec 32 := Scalar.muli v40 c1_i32_25
  let v46 : BitVec 32 := Scalar.addi v44 v45
  v46.toNat
def k0_dev3 (d0 : Dev nD) : Nat :=
  let c0_i32_34 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_33 : BitVec 32 := 16#32
  let v58 : BitVec 32 := Scalar.muli v2 c16_i32_33
  let v59 : BitVec 32 := Scalar.addi c0_i32_34 v58
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_35 : BitVec 32 := 4#32
  let v60 : BitVec 32 := Scalar.muli v5 c4_i32_35
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v47 : BitVec 32 := Scalar.addi v8 c3_i32
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c1_i32_36 : BitVec 32 := 1#32
  let v62 : BitVec 32 := Scalar.muli v57 c1_i32_36
  let v63 : BitVec 32 := Scalar.addi v61 v62
  v63.toNat
def k0_dev4 (d0 : Dev nD) : Nat :=
  let c0_i32_58 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c1_i32_37 : BitVec 32 := 1#32
  let v64 : BitVec 32 := Scalar.addi v10 c1_i32_37
  let c8_i32 : BitVec 32 := 8#32
  let c0_i32_38 : BitVec 32 := 0#32
  let v65 : BitVec 1 := Scalar.cmpi .eq c8_i32 c0_i32_38
  let c1_i32_39 : BitVec 32 := 1#32
  let v66 : BitVec 32 := Scalar.select v65 c1_i32_39 c8_i32
  let v67 : BitVec 32 := Scalar.remsi v64 v66
  let c0_i32_41 : BitVec 32 := 0#32
  let v69 : BitVec 1 := Scalar.cmpi .slt v67 c0_i32_41
  let c0_i32_42 : BitVec 32 := 0#32
  let v70 : BitVec 1 := Scalar.cmpi .slt v66 c0_i32_42
  let v71 : BitVec 1 := Scalar.xori v69 v70
  let c0_i32_40 : BitVec 32 := 0#32
  let v68 : BitVec 1 := Scalar.cmpi .ne v67 c0_i32_40
  let v72 : BitVec 1 := Scalar.andi v71 v68
  let v73 : BitVec 32 := Scalar.addi v67 v66
  let v74 : BitVec 32 := Scalar.select v72 v73 v67
  let c0_i32_44 : BitVec 32 := 0#32
  let v76 : BitVec 1 := Scalar.cmpi .sgt v74 c0_i32_44
  let v77 : BitVec 32 := Scalar.extui v76
  let c0_i32_45 : BitVec 32 := 0#32
  let v78 : BitVec 1 := Scalar.cmpi .slt v74 c0_i32_45
  let v79 : BitVec 32 := Scalar.extui v78
  let v80 : BitVec 32 := Scalar.subi v77 v79
  let c4_i32_43 : BitVec 32 := 4#32
  let c0_i32_46 : BitVec 32 := 0#32
  let v81 : BitVec 1 := Scalar.cmpi .sgt c4_i32_43 c0_i32_46
  let v82 : BitVec 32 := Scalar.extui v81
  let c0_i32_47 : BitVec 32 := 0#32
  let v83 : BitVec 1 := Scalar.cmpi .slt c4_i32_43 c0_i32_47
  let v84 : BitVec 32 := Scalar.extui v83
  let v85 : BitVec 32 := Scalar.subi v82 v84
  let v86 : BitVec 1 := Scalar.cmpi .ne v80 v85
  let v87 : BitVec 32 := Scalar.remsi v74 c4_i32_43
  let c0_i32_48 : BitVec 32 := 0#32
  let v88 : BitVec 1 := Scalar.cmpi .ne v87 c0_i32_48
  let v89 : BitVec 1 := Scalar.andi v86 v88
  let v75 : BitVec 32 := Scalar.divsi v74 c4_i32_43
  let c1_i32_49 : BitVec 32 := 1#32
  let v90 : BitVec 32 := Scalar.subi v75 c1_i32_49
  let v91 : BitVec 32 := Scalar.select v89 v90 v75
  let c16_i32_57 : BitVec 32 := 16#32
  let v102 : BitVec 32 := Scalar.muli v91 c16_i32_57
  let v103 : BitVec 32 := Scalar.addi c0_i32_58 v102
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v74 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_59 : BitVec 32 := 4#32
  let v104 : BitVec 32 := Scalar.muli v101 c4_i32_59
  let v105 : BitVec 32 := Scalar.addi v103 v104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v106 : BitVec 32 := Scalar.muli v8 c1_i32_60
  let v107 : BitVec 32 := Scalar.addi v105 v106
  v107.toNat
def k0_dev5 (d0 : Dev nD) : Nat :=
  let c0_i32_83 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c2_i32_61 : BitVec 32 := 2#32
  let v108 : BitVec 32 := Scalar.addi v10 c2_i32_61
  let c8_i32_62 : BitVec 32 := 8#32
  let c0_i32_63 : BitVec 32 := 0#32
  let v109 : BitVec 1 := Scalar.cmpi .eq c8_i32_62 c0_i32_63
  let c1_i32_64 : BitVec 32 := 1#32
  let v110 : BitVec 32 := Scalar.select v109 c1_i32_64 c8_i32_62
  let v111 : BitVec 32 := Scalar.remsi v108 v110
  let c0_i32_66 : BitVec 32 := 0#32
  let v113 : BitVec 1 := Scalar.cmpi .slt v111 c0_i32_66
  let c0_i32_67 : BitVec 32 := 0#32
  let v114 : BitVec 1 := Scalar.cmpi .slt v110 c0_i32_67
  let v115 : BitVec 1 := Scalar.xori v113 v114
  let c0_i32_65 : BitVec 32 := 0#32
  let v112 : BitVec 1 := Scalar.cmpi .ne v111 c0_i32_65
  let v116 : BitVec 1 := Scalar.andi v115 v112
  let v117 : BitVec 32 := Scalar.addi v111 v110
  let v118 : BitVec 32 := Scalar.select v116 v117 v111
  let c0_i32_69 : BitVec 32 := 0#32
  let v120 : BitVec 1 := Scalar.cmpi .sgt v118 c0_i32_69
  let v121 : BitVec 32 := Scalar.extui v120
  let c0_i32_70 : BitVec 32 := 0#32
  let v122 : BitVec 1 := Scalar.cmpi .slt v118 c0_i32_70
  let v123 : BitVec 32 := Scalar.extui v122
  let v124 : BitVec 32 := Scalar.subi v121 v123
  let c4_i32_68 : BitVec 32 := 4#32
  let c0_i32_71 : BitVec 32 := 0#32
  let v125 : BitVec 1 := Scalar.cmpi .sgt c4_i32_68 c0_i32_71
  let v126 : BitVec 32 := Scalar.extui v125
  let c0_i32_72 : BitVec 32 := 0#32
  let v127 : BitVec 1 := Scalar.cmpi .slt c4_i32_68 c0_i32_72
  let v128 : BitVec 32 := Scalar.extui v127
  let v129 : BitVec 32 := Scalar.subi v126 v128
  let v130 : BitVec 1 := Scalar.cmpi .ne v124 v129
  let v131 : BitVec 32 := Scalar.remsi v118 c4_i32_68
  let c0_i32_73 : BitVec 32 := 0#32
  let v132 : BitVec 1 := Scalar.cmpi .ne v131 c0_i32_73
  let v133 : BitVec 1 := Scalar.andi v130 v132
  let v119 : BitVec 32 := Scalar.divsi v118 c4_i32_68
  let c1_i32_74 : BitVec 32 := 1#32
  let v134 : BitVec 32 := Scalar.subi v119 c1_i32_74
  let v135 : BitVec 32 := Scalar.select v133 v134 v119
  let c16_i32_82 : BitVec 32 := 16#32
  let v146 : BitVec 32 := Scalar.muli v135 c16_i32_82
  let v147 : BitVec 32 := Scalar.addi c0_i32_83 v146
  let c4_i32_75 : BitVec 32 := 4#32
  let c0_i32_76 : BitVec 32 := 0#32
  let v136 : BitVec 1 := Scalar.cmpi .eq c4_i32_75 c0_i32_76
  let c1_i32_77 : BitVec 32 := 1#32
  let v137 : BitVec 32 := Scalar.select v136 c1_i32_77 c4_i32_75
  let v138 : BitVec 32 := Scalar.remsi v118 v137
  let c0_i32_79 : BitVec 32 := 0#32
  let v140 : BitVec 1 := Scalar.cmpi .slt v138 c0_i32_79
  let c0_i32_80 : BitVec 32 := 0#32
  let v141 : BitVec 1 := Scalar.cmpi .slt v137 c0_i32_80
  let v142 : BitVec 1 := Scalar.xori v140 v141
  let c0_i32_78 : BitVec 32 := 0#32
  let v139 : BitVec 1 := Scalar.cmpi .ne v138 c0_i32_78
  let v143 : BitVec 1 := Scalar.andi v142 v139
  let v144 : BitVec 32 := Scalar.addi v138 v137
  let v145 : BitVec 32 := Scalar.select v143 v144 v138
  let c4_i32_84 : BitVec 32 := 4#32
  let v148 : BitVec 32 := Scalar.muli v145 c4_i32_84
  let v149 : BitVec 32 := Scalar.addi v147 v148
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v150 : BitVec 32 := Scalar.muli v8 c1_i32_85
  let v151 : BitVec 32 := Scalar.addi v149 v150
  v151.toNat
def k0_dev6 (d0 : Dev nD) : Nat :=
  let c0_i32_108 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c3_i32_86 : BitVec 32 := 3#32
  let v152 : BitVec 32 := Scalar.addi v10 c3_i32_86
  let c8_i32_87 : BitVec 32 := 8#32
  let c0_i32_88 : BitVec 32 := 0#32
  let v153 : BitVec 1 := Scalar.cmpi .eq c8_i32_87 c0_i32_88
  let c1_i32_89 : BitVec 32 := 1#32
  let v154 : BitVec 32 := Scalar.select v153 c1_i32_89 c8_i32_87
  let v155 : BitVec 32 := Scalar.remsi v152 v154
  let c0_i32_91 : BitVec 32 := 0#32
  let v157 : BitVec 1 := Scalar.cmpi .slt v155 c0_i32_91
  let c0_i32_92 : BitVec 32 := 0#32
  let v158 : BitVec 1 := Scalar.cmpi .slt v154 c0_i32_92
  let v159 : BitVec 1 := Scalar.xori v157 v158
  let c0_i32_90 : BitVec 32 := 0#32
  let v156 : BitVec 1 := Scalar.cmpi .ne v155 c0_i32_90
  let v160 : BitVec 1 := Scalar.andi v159 v156
  let v161 : BitVec 32 := Scalar.addi v155 v154
  let v162 : BitVec 32 := Scalar.select v160 v161 v155
  let c0_i32_94 : BitVec 32 := 0#32
  let v164 : BitVec 1 := Scalar.cmpi .sgt v162 c0_i32_94
  let v165 : BitVec 32 := Scalar.extui v164
  let c0_i32_95 : BitVec 32 := 0#32
  let v166 : BitVec 1 := Scalar.cmpi .slt v162 c0_i32_95
  let v167 : BitVec 32 := Scalar.extui v166
  let v168 : BitVec 32 := Scalar.subi v165 v167
  let c4_i32_93 : BitVec 32 := 4#32
  let c0_i32_96 : BitVec 32 := 0#32
  let v169 : BitVec 1 := Scalar.cmpi .sgt c4_i32_93 c0_i32_96
  let v170 : BitVec 32 := Scalar.extui v169
  let c0_i32_97 : BitVec 32 := 0#32
  let v171 : BitVec 1 := Scalar.cmpi .slt c4_i32_93 c0_i32_97
  let v172 : BitVec 32 := Scalar.extui v171
  let v173 : BitVec 32 := Scalar.subi v170 v172
  let v174 : BitVec 1 := Scalar.cmpi .ne v168 v173
  let v175 : BitVec 32 := Scalar.remsi v162 c4_i32_93
  let c0_i32_98 : BitVec 32 := 0#32
  let v176 : BitVec 1 := Scalar.cmpi .ne v175 c0_i32_98
  let v177 : BitVec 1 := Scalar.andi v174 v176
  let v163 : BitVec 32 := Scalar.divsi v162 c4_i32_93
  let c1_i32_99 : BitVec 32 := 1#32
  let v178 : BitVec 32 := Scalar.subi v163 c1_i32_99
  let v179 : BitVec 32 := Scalar.select v177 v178 v163
  let c16_i32_107 : BitVec 32 := 16#32
  let v190 : BitVec 32 := Scalar.muli v179 c16_i32_107
  let v191 : BitVec 32 := Scalar.addi c0_i32_108 v190
  let c4_i32_100 : BitVec 32 := 4#32
  let c0_i32_101 : BitVec 32 := 0#32
  let v180 : BitVec 1 := Scalar.cmpi .eq c4_i32_100 c0_i32_101
  let c1_i32_102 : BitVec 32 := 1#32
  let v181 : BitVec 32 := Scalar.select v180 c1_i32_102 c4_i32_100
  let v182 : BitVec 32 := Scalar.remsi v162 v181
  let c0_i32_104 : BitVec 32 := 0#32
  let v184 : BitVec 1 := Scalar.cmpi .slt v182 c0_i32_104
  let c0_i32_105 : BitVec 32 := 0#32
  let v185 : BitVec 1 := Scalar.cmpi .slt v181 c0_i32_105
  let v186 : BitVec 1 := Scalar.xori v184 v185
  let c0_i32_103 : BitVec 32 := 0#32
  let v183 : BitVec 1 := Scalar.cmpi .ne v182 c0_i32_103
  let v187 : BitVec 1 := Scalar.andi v186 v183
  let v188 : BitVec 32 := Scalar.addi v182 v181
  let v189 : BitVec 32 := Scalar.select v187 v188 v182
  let c4_i32_109 : BitVec 32 := 4#32
  let v192 : BitVec 32 := Scalar.muli v189 c4_i32_109
  let v193 : BitVec 32 := Scalar.addi v191 v192
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v194 : BitVec 32 := Scalar.muli v8 c1_i32_110
  let v195 : BitVec 32 := Scalar.addi v193 v194
  v195.toNat
def k0_dev7 (d0 : Dev nD) : Nat :=
  let c0_i32_133 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c4_i32_111 : BitVec 32 := 4#32
  let v196 : BitVec 32 := Scalar.addi v10 c4_i32_111
  let c8_i32_112 : BitVec 32 := 8#32
  let c0_i32_113 : BitVec 32 := 0#32
  let v197 : BitVec 1 := Scalar.cmpi .eq c8_i32_112 c0_i32_113
  let c1_i32_114 : BitVec 32 := 1#32
  let v198 : BitVec 32 := Scalar.select v197 c1_i32_114 c8_i32_112
  let v199 : BitVec 32 := Scalar.remsi v196 v198
  let c0_i32_116 : BitVec 32 := 0#32
  let v201 : BitVec 1 := Scalar.cmpi .slt v199 c0_i32_116
  let c0_i32_117 : BitVec 32 := 0#32
  let v202 : BitVec 1 := Scalar.cmpi .slt v198 c0_i32_117
  let v203 : BitVec 1 := Scalar.xori v201 v202
  let c0_i32_115 : BitVec 32 := 0#32
  let v200 : BitVec 1 := Scalar.cmpi .ne v199 c0_i32_115
  let v204 : BitVec 1 := Scalar.andi v203 v200
  let v205 : BitVec 32 := Scalar.addi v199 v198
  let v206 : BitVec 32 := Scalar.select v204 v205 v199
  let c0_i32_119 : BitVec 32 := 0#32
  let v208 : BitVec 1 := Scalar.cmpi .sgt v206 c0_i32_119
  let v209 : BitVec 32 := Scalar.extui v208
  let c0_i32_120 : BitVec 32 := 0#32
  let v210 : BitVec 1 := Scalar.cmpi .slt v206 c0_i32_120
  let v211 : BitVec 32 := Scalar.extui v210
  let v212 : BitVec 32 := Scalar.subi v209 v211
  let c4_i32_118 : BitVec 32 := 4#32
  let c0_i32_121 : BitVec 32 := 0#32
  let v213 : BitVec 1 := Scalar.cmpi .sgt c4_i32_118 c0_i32_121
  let v214 : BitVec 32 := Scalar.extui v213
  let c0_i32_122 : BitVec 32 := 0#32
  let v215 : BitVec 1 := Scalar.cmpi .slt c4_i32_118 c0_i32_122
  let v216 : BitVec 32 := Scalar.extui v215
  let v217 : BitVec 32 := Scalar.subi v214 v216
  let v218 : BitVec 1 := Scalar.cmpi .ne v212 v217
  let v219 : BitVec 32 := Scalar.remsi v206 c4_i32_118
  let c0_i32_123 : BitVec 32 := 0#32
  let v220 : BitVec 1 := Scalar.cmpi .ne v219 c0_i32_123
  let v221 : BitVec 1 := Scalar.andi v218 v220
  let v207 : BitVec 32 := Scalar.divsi v206 c4_i32_118
  let c1_i32_124 : BitVec 32 := 1#32
  let v222 : BitVec 32 := Scalar.subi v207 c1_i32_124
  let v223 : BitVec 32 := Scalar.select v221 v222 v207
  let c16_i32_132 : BitVec 32 := 16#32
  let v234 : BitVec 32 := Scalar.muli v223 c16_i32_132
  let v235 : BitVec 32 := Scalar.addi c0_i32_133 v234
  let c4_i32_125 : BitVec 32 := 4#32
  let c0_i32_126 : BitVec 32 := 0#32
  let v224 : BitVec 1 := Scalar.cmpi .eq c4_i32_125 c0_i32_126
  let c1_i32_127 : BitVec 32 := 1#32
  let v225 : BitVec 32 := Scalar.select v224 c1_i32_127 c4_i32_125
  let v226 : BitVec 32 := Scalar.remsi v206 v225
  let c0_i32_129 : BitVec 32 := 0#32
  let v228 : BitVec 1 := Scalar.cmpi .slt v226 c0_i32_129
  let c0_i32_130 : BitVec 32 := 0#32
  let v229 : BitVec 1 := Scalar.cmpi .slt v225 c0_i32_130
  let v230 : BitVec 1 := Scalar.xori v228 v229
  let c0_i32_128 : BitVec 32 := 0#32
  let v227 : BitVec 1 := Scalar.cmpi .ne v226 c0_i32_128
  let v231 : BitVec 1 := Scalar.andi v230 v227
  let v232 : BitVec 32 := Scalar.addi v226 v225
  let v233 : BitVec 32 := Scalar.select v231 v232 v226
  let c4_i32_134 : BitVec 32 := 4#32
  let v236 : BitVec 32 := Scalar.muli v233 c4_i32_134
  let v237 : BitVec 32 := Scalar.addi v235 v236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_135 : BitVec 32 := 1#32
  let v238 : BitVec 32 := Scalar.muli v8 c1_i32_135
  let v239 : BitVec 32 := Scalar.addi v237 v238
  v239.toNat
def k0_dev8 (d0 : Dev nD) : Nat :=
  let c0_i32_157 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c5_i32 : BitVec 32 := 5#32
  let v240 : BitVec 32 := Scalar.addi v10 c5_i32
  let c8_i32_136 : BitVec 32 := 8#32
  let c0_i32_137 : BitVec 32 := 0#32
  let v241 : BitVec 1 := Scalar.cmpi .eq c8_i32_136 c0_i32_137
  let c1_i32_138 : BitVec 32 := 1#32
  let v242 : BitVec 32 := Scalar.select v241 c1_i32_138 c8_i32_136
  let v243 : BitVec 32 := Scalar.remsi v240 v242
  let c0_i32_140 : BitVec 32 := 0#32
  let v245 : BitVec 1 := Scalar.cmpi .slt v243 c0_i32_140
  let c0_i32_141 : BitVec 32 := 0#32
  let v246 : BitVec 1 := Scalar.cmpi .slt v242 c0_i32_141
  let v247 : BitVec 1 := Scalar.xori v245 v246
  let c0_i32_139 : BitVec 32 := 0#32
  let v244 : BitVec 1 := Scalar.cmpi .ne v243 c0_i32_139
  let v248 : BitVec 1 := Scalar.andi v247 v244
  let v249 : BitVec 32 := Scalar.addi v243 v242
  let v250 : BitVec 32 := Scalar.select v248 v249 v243
  let c0_i32_143 : BitVec 32 := 0#32
  let v252 : BitVec 1 := Scalar.cmpi .sgt v250 c0_i32_143
  let v253 : BitVec 32 := Scalar.extui v252
  let c0_i32_144 : BitVec 32 := 0#32
  let v254 : BitVec 1 := Scalar.cmpi .slt v250 c0_i32_144
  let v255 : BitVec 32 := Scalar.extui v254
  let v256 : BitVec 32 := Scalar.subi v253 v255
  let c4_i32_142 : BitVec 32 := 4#32
  let c0_i32_145 : BitVec 32 := 0#32
  let v257 : BitVec 1 := Scalar.cmpi .sgt c4_i32_142 c0_i32_145
  let v258 : BitVec 32 := Scalar.extui v257
  let c0_i32_146 : BitVec 32 := 0#32
  let v259 : BitVec 1 := Scalar.cmpi .slt c4_i32_142 c0_i32_146
  let v260 : BitVec 32 := Scalar.extui v259
  let v261 : BitVec 32 := Scalar.subi v258 v260
  let v262 : BitVec 1 := Scalar.cmpi .ne v256 v261
  let v263 : BitVec 32 := Scalar.remsi v250 c4_i32_142
  let c0_i32_147 : BitVec 32 := 0#32
  let v264 : BitVec 1 := Scalar.cmpi .ne v263 c0_i32_147
  let v265 : BitVec 1 := Scalar.andi v262 v264
  let v251 : BitVec 32 := Scalar.divsi v250 c4_i32_142
  let c1_i32_148 : BitVec 32 := 1#32
  let v266 : BitVec 32 := Scalar.subi v251 c1_i32_148
  let v267 : BitVec 32 := Scalar.select v265 v266 v251
  let c16_i32_156 : BitVec 32 := 16#32
  let v278 : BitVec 32 := Scalar.muli v267 c16_i32_156
  let v279 : BitVec 32 := Scalar.addi c0_i32_157 v278
  let c4_i32_149 : BitVec 32 := 4#32
  let c0_i32_150 : BitVec 32 := 0#32
  let v268 : BitVec 1 := Scalar.cmpi .eq c4_i32_149 c0_i32_150
  let c1_i32_151 : BitVec 32 := 1#32
  let v269 : BitVec 32 := Scalar.select v268 c1_i32_151 c4_i32_149
  let v270 : BitVec 32 := Scalar.remsi v250 v269
  let c0_i32_153 : BitVec 32 := 0#32
  let v272 : BitVec 1 := Scalar.cmpi .slt v270 c0_i32_153
  let c0_i32_154 : BitVec 32 := 0#32
  let v273 : BitVec 1 := Scalar.cmpi .slt v269 c0_i32_154
  let v274 : BitVec 1 := Scalar.xori v272 v273
  let c0_i32_152 : BitVec 32 := 0#32
  let v271 : BitVec 1 := Scalar.cmpi .ne v270 c0_i32_152
  let v275 : BitVec 1 := Scalar.andi v274 v271
  let v276 : BitVec 32 := Scalar.addi v270 v269
  let v277 : BitVec 32 := Scalar.select v275 v276 v270
  let c4_i32_158 : BitVec 32 := 4#32
  let v280 : BitVec 32 := Scalar.muli v277 c4_i32_158
  let v281 : BitVec 32 := Scalar.addi v279 v280
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_159 : BitVec 32 := 1#32
  let v282 : BitVec 32 := Scalar.muli v8 c1_i32_159
  let v283 : BitVec 32 := Scalar.addi v281 v282
  v283.toNat
def k0_dev9 (d0 : Dev nD) : Nat :=
  let c0_i32_181 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c6_i32 : BitVec 32 := 6#32
  let v284 : BitVec 32 := Scalar.addi v10 c6_i32
  let c8_i32_160 : BitVec 32 := 8#32
  let c0_i32_161 : BitVec 32 := 0#32
  let v285 : BitVec 1 := Scalar.cmpi .eq c8_i32_160 c0_i32_161
  let c1_i32_162 : BitVec 32 := 1#32
  let v286 : BitVec 32 := Scalar.select v285 c1_i32_162 c8_i32_160
  let v287 : BitVec 32 := Scalar.remsi v284 v286
  let c0_i32_164 : BitVec 32 := 0#32
  let v289 : BitVec 1 := Scalar.cmpi .slt v287 c0_i32_164
  let c0_i32_165 : BitVec 32 := 0#32
  let v290 : BitVec 1 := Scalar.cmpi .slt v286 c0_i32_165
  let v291 : BitVec 1 := Scalar.xori v289 v290
  let c0_i32_163 : BitVec 32 := 0#32
  let v288 : BitVec 1 := Scalar.cmpi .ne v287 c0_i32_163
  let v292 : BitVec 1 := Scalar.andi v291 v288
  let v293 : BitVec 32 := Scalar.addi v287 v286
  let v294 : BitVec 32 := Scalar.select v292 v293 v287
  let c0_i32_167 : BitVec 32 := 0#32
  let v296 : BitVec 1 := Scalar.cmpi .sgt v294 c0_i32_167
  let v297 : BitVec 32 := Scalar.extui v296
  let c0_i32_168 : BitVec 32 := 0#32
  let v298 : BitVec 1 := Scalar.cmpi .slt v294 c0_i32_168
  let v299 : BitVec 32 := Scalar.extui v298
  let v300 : BitVec 32 := Scalar.subi v297 v299
  let c4_i32_166 : BitVec 32 := 4#32
  let c0_i32_169 : BitVec 32 := 0#32
  let v301 : BitVec 1 := Scalar.cmpi .sgt c4_i32_166 c0_i32_169
  let v302 : BitVec 32 := Scalar.extui v301
  let c0_i32_170 : BitVec 32 := 0#32
  let v303 : BitVec 1 := Scalar.cmpi .slt c4_i32_166 c0_i32_170
  let v304 : BitVec 32 := Scalar.extui v303
  let v305 : BitVec 32 := Scalar.subi v302 v304
  let v306 : BitVec 1 := Scalar.cmpi .ne v300 v305
  let v307 : BitVec 32 := Scalar.remsi v294 c4_i32_166
  let c0_i32_171 : BitVec 32 := 0#32
  let v308 : BitVec 1 := Scalar.cmpi .ne v307 c0_i32_171
  let v309 : BitVec 1 := Scalar.andi v306 v308
  let v295 : BitVec 32 := Scalar.divsi v294 c4_i32_166
  let c1_i32_172 : BitVec 32 := 1#32
  let v310 : BitVec 32 := Scalar.subi v295 c1_i32_172
  let v311 : BitVec 32 := Scalar.select v309 v310 v295
  let c16_i32_180 : BitVec 32 := 16#32
  let v322 : BitVec 32 := Scalar.muli v311 c16_i32_180
  let v323 : BitVec 32 := Scalar.addi c0_i32_181 v322
  let c4_i32_173 : BitVec 32 := 4#32
  let c0_i32_174 : BitVec 32 := 0#32
  let v312 : BitVec 1 := Scalar.cmpi .eq c4_i32_173 c0_i32_174
  let c1_i32_175 : BitVec 32 := 1#32
  let v313 : BitVec 32 := Scalar.select v312 c1_i32_175 c4_i32_173
  let v314 : BitVec 32 := Scalar.remsi v294 v313
  let c0_i32_177 : BitVec 32 := 0#32
  let v316 : BitVec 1 := Scalar.cmpi .slt v314 c0_i32_177
  let c0_i32_178 : BitVec 32 := 0#32
  let v317 : BitVec 1 := Scalar.cmpi .slt v313 c0_i32_178
  let v318 : BitVec 1 := Scalar.xori v316 v317
  let c0_i32_176 : BitVec 32 := 0#32
  let v315 : BitVec 1 := Scalar.cmpi .ne v314 c0_i32_176
  let v319 : BitVec 1 := Scalar.andi v318 v315
  let v320 : BitVec 32 := Scalar.addi v314 v313
  let v321 : BitVec 32 := Scalar.select v319 v320 v314
  let c4_i32_182 : BitVec 32 := 4#32
  let v324 : BitVec 32 := Scalar.muli v321 c4_i32_182
  let v325 : BitVec 32 := Scalar.addi v323 v324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_183 : BitVec 32 := 1#32
  let v326 : BitVec 32 := Scalar.muli v8 c1_i32_183
  let v327 : BitVec 32 := Scalar.addi v325 v326
  v327.toNat
def k0_dev10 (d0 : Dev nD) : Nat :=
  let c0_i32_205 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c7_i32 : BitVec 32 := 7#32
  let v328 : BitVec 32 := Scalar.addi v10 c7_i32
  let c8_i32_184 : BitVec 32 := 8#32
  let c0_i32_185 : BitVec 32 := 0#32
  let v329 : BitVec 1 := Scalar.cmpi .eq c8_i32_184 c0_i32_185
  let c1_i32_186 : BitVec 32 := 1#32
  let v330 : BitVec 32 := Scalar.select v329 c1_i32_186 c8_i32_184
  let v331 : BitVec 32 := Scalar.remsi v328 v330
  let c0_i32_188 : BitVec 32 := 0#32
  let v333 : BitVec 1 := Scalar.cmpi .slt v331 c0_i32_188
  let c0_i32_189 : BitVec 32 := 0#32
  let v334 : BitVec 1 := Scalar.cmpi .slt v330 c0_i32_189
  let v335 : BitVec 1 := Scalar.xori v333 v334
  let c0_i32_187 : BitVec 32 := 0#32
  let v332 : BitVec 1 := Scalar.cmpi .ne v331 c0_i32_187
  let v336 : BitVec 1 := Scalar.andi v335 v332
  let v337 : BitVec 32 := Scalar.addi v331 v330
  let v338 : BitVec 32 := Scalar.select v336 v337 v331
  let c0_i32_191 : BitVec 32 := 0#32
  let v340 : BitVec 1 := Scalar.cmpi .sgt v338 c0_i32_191
  let v341 : BitVec 32 := Scalar.extui v340
  let c0_i32_192 : BitVec 32 := 0#32
  let v342 : BitVec 1 := Scalar.cmpi .slt v338 c0_i32_192
  let v343 : BitVec 32 := Scalar.extui v342
  let v344 : BitVec 32 := Scalar.subi v341 v343
  let c4_i32_190 : BitVec 32 := 4#32
  let c0_i32_193 : BitVec 32 := 0#32
  let v345 : BitVec 1 := Scalar.cmpi .sgt c4_i32_190 c0_i32_193
  let v346 : BitVec 32 := Scalar.extui v345
  let c0_i32_194 : BitVec 32 := 0#32
  let v347 : BitVec 1 := Scalar.cmpi .slt c4_i32_190 c0_i32_194
  let v348 : BitVec 32 := Scalar.extui v347
  let v349 : BitVec 32 := Scalar.subi v346 v348
  let v350 : BitVec 1 := Scalar.cmpi .ne v344 v349
  let v351 : BitVec 32 := Scalar.remsi v338 c4_i32_190
  let c0_i32_195 : BitVec 32 := 0#32
  let v352 : BitVec 1 := Scalar.cmpi .ne v351 c0_i32_195
  let v353 : BitVec 1 := Scalar.andi v350 v352
  let v339 : BitVec 32 := Scalar.divsi v338 c4_i32_190
  let c1_i32_196 : BitVec 32 := 1#32
  let v354 : BitVec 32 := Scalar.subi v339 c1_i32_196
  let v355 : BitVec 32 := Scalar.select v353 v354 v339
  let c16_i32_204 : BitVec 32 := 16#32
  let v366 : BitVec 32 := Scalar.muli v355 c16_i32_204
  let v367 : BitVec 32 := Scalar.addi c0_i32_205 v366
  let c4_i32_197 : BitVec 32 := 4#32
  let c0_i32_198 : BitVec 32 := 0#32
  let v356 : BitVec 1 := Scalar.cmpi .eq c4_i32_197 c0_i32_198
  let c1_i32_199 : BitVec 32 := 1#32
  let v357 : BitVec 32 := Scalar.select v356 c1_i32_199 c4_i32_197
  let v358 : BitVec 32 := Scalar.remsi v338 v357
  let c0_i32_201 : BitVec 32 := 0#32
  let v360 : BitVec 1 := Scalar.cmpi .slt v358 c0_i32_201
  let c0_i32_202 : BitVec 32 := 0#32
  let v361 : BitVec 1 := Scalar.cmpi .slt v357 c0_i32_202
  let v362 : BitVec 1 := Scalar.xori v360 v361
  let c0_i32_200 : BitVec 32 := 0#32
  let v359 : BitVec 1 := Scalar.cmpi .ne v358 c0_i32_200
  let v363 : BitVec 1 := Scalar.andi v362 v359
  let v364 : BitVec 32 := Scalar.addi v358 v357
  let v365 : BitVec 32 := Scalar.select v363 v364 v358
  let c4_i32_206 : BitVec 32 := 4#32
  let v368 : BitVec 32 := Scalar.muli v365 c4_i32_206
  let v369 : BitVec 32 := Scalar.addi v367 v368
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_207 : BitVec 32 := 1#32
  let v370 : BitVec 32 := Scalar.muli v8 c1_i32_207
  let v371 : BitVec 32 := Scalar.addi v369 v370
  v371.toNat
def k0_off1 (d0 : Dev nD) (c1_i32_208 : BitVec 32) : Fin 3 → Nat :=
  let c0_i32_215 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c32_i32 : BitVec 32 := 32#32
  let v11 : BitVec 32 := Scalar.muli v10 c32_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v372 : BitVec 32 := Scalar.addi v8 c1_i32_208
  let c4_i32_209 : BitVec 32 := 4#32
  let c0_i32_210 : BitVec 32 := 0#32
  let v373 : BitVec 1 := Scalar.cmpi .eq c4_i32_209 c0_i32_210
  let c1_i32_211 : BitVec 32 := 1#32
  let v374 : BitVec 32 := Scalar.select v373 c1_i32_211 c4_i32_209
  let v375 : BitVec 32 := Scalar.remsi v372 v374
  let c0_i32_213 : BitVec 32 := 0#32
  let v377 : BitVec 1 := Scalar.cmpi .slt v375 c0_i32_213
  let c0_i32_214 : BitVec 32 := 0#32
  let v378 : BitVec 1 := Scalar.cmpi .slt v374 c0_i32_214
  let v379 : BitVec 1 := Scalar.xori v377 v378
  let c0_i32_212 : BitVec 32 := 0#32
  let v376 : BitVec 1 := Scalar.cmpi .ne v375 c0_i32_212
  let v380 : BitVec 1 := Scalar.andi v379 v376
  let v381 : BitVec 32 := Scalar.addi v375 v374
  let v382 : BitVec 32 := Scalar.select v380 v381 v375
  let c256_i32 : BitVec 32 := 256#32
  let v383 : BitVec 32 := Scalar.muli v382 c256_i32
  ![0, v11.toNat, v383.toNat]
def k0_dev11 (d0 : Dev nD) : Nat :=
  let c0_i32_220 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_219 : BitVec 32 := 16#32
  let v384 : BitVec 32 := Scalar.muli v2 c16_i32_219
  let v385 : BitVec 32 := Scalar.addi c0_i32_220 v384
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_221 : BitVec 32 := 4#32
  let v386 : BitVec 32 := Scalar.muli v5 c4_i32_221
  let v387 : BitVec 32 := Scalar.addi v385 v386
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_208 : BitVec 32 := 1#32
  let v372 : BitVec 32 := Scalar.addi v8 c1_i32_208
  let c4_i32_209 : BitVec 32 := 4#32
  let c0_i32_210 : BitVec 32 := 0#32
  let v373 : BitVec 1 := Scalar.cmpi .eq c4_i32_209 c0_i32_210
  let c1_i32_211 : BitVec 32 := 1#32
  let v374 : BitVec 32 := Scalar.select v373 c1_i32_211 c4_i32_209
  let v375 : BitVec 32 := Scalar.remsi v372 v374
  let c0_i32_213 : BitVec 32 := 0#32
  let v377 : BitVec 1 := Scalar.cmpi .slt v375 c0_i32_213
  let c0_i32_214 : BitVec 32 := 0#32
  let v378 : BitVec 1 := Scalar.cmpi .slt v374 c0_i32_214
  let v379 : BitVec 1 := Scalar.xori v377 v378
  let c0_i32_212 : BitVec 32 := 0#32
  let v376 : BitVec 1 := Scalar.cmpi .ne v375 c0_i32_212
  let v380 : BitVec 1 := Scalar.andi v379 v376
  let v381 : BitVec 32 := Scalar.addi v375 v374
  let v382 : BitVec 32 := Scalar.select v380 v381 v375
  let c1_i32_222 : BitVec 32 := 1#32
  let v388 : BitVec 32 := Scalar.muli v382 c1_i32_222
  let v389 : BitVec 32 := Scalar.addi v387 v388
  v389.toNat
def k0_dev12 (d0 : Dev nD) : Nat :=
  let c0_i32_238 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_237 : BitVec 32 := 16#32
  let v410 : BitVec 32 := Scalar.muli v2 c16_i32_237
  let v411 : BitVec 32 := Scalar.addi c0_i32_238 v410
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_239 : BitVec 32 := 4#32
  let v412 : BitVec 32 := Scalar.muli v5 c4_i32_239
  let v413 : BitVec 32 := Scalar.addi v411 v412
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_225 : BitVec 32 := 2#32
  let v398 : BitVec 32 := Scalar.addi v8 c2_i32_225
  let c4_i32_226 : BitVec 32 := 4#32
  let c0_i32_227 : BitVec 32 := 0#32
  let v399 : BitVec 1 := Scalar.cmpi .eq c4_i32_226 c0_i32_227
  let c1_i32_228 : BitVec 32 := 1#32
  let v400 : BitVec 32 := Scalar.select v399 c1_i32_228 c4_i32_226
  let v401 : BitVec 32 := Scalar.remsi v398 v400
  let c0_i32_230 : BitVec 32 := 0#32
  let v403 : BitVec 1 := Scalar.cmpi .slt v401 c0_i32_230
  let c0_i32_231 : BitVec 32 := 0#32
  let v404 : BitVec 1 := Scalar.cmpi .slt v400 c0_i32_231
  let v405 : BitVec 1 := Scalar.xori v403 v404
  let c0_i32_229 : BitVec 32 := 0#32
  let v402 : BitVec 1 := Scalar.cmpi .ne v401 c0_i32_229
  let v406 : BitVec 1 := Scalar.andi v405 v402
  let v407 : BitVec 32 := Scalar.addi v401 v400
  let v408 : BitVec 32 := Scalar.select v406 v407 v401
  let c1_i32_240 : BitVec 32 := 1#32
  let v414 : BitVec 32 := Scalar.muli v408 c1_i32_240
  let v415 : BitVec 32 := Scalar.addi v413 v414
  v415.toNat
def k0_dev13 (d0 : Dev nD) : Nat :=
  let c0_i32_256 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_255 : BitVec 32 := 16#32
  let v436 : BitVec 32 := Scalar.muli v2 c16_i32_255
  let v437 : BitVec 32 := Scalar.addi c0_i32_256 v436
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_257 : BitVec 32 := 4#32
  let v438 : BitVec 32 := Scalar.muli v5 c4_i32_257
  let v439 : BitVec 32 := Scalar.addi v437 v438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_243 : BitVec 32 := 3#32
  let v424 : BitVec 32 := Scalar.addi v8 c3_i32_243
  let c4_i32_244 : BitVec 32 := 4#32
  let c0_i32_245 : BitVec 32 := 0#32
  let v425 : BitVec 1 := Scalar.cmpi .eq c4_i32_244 c0_i32_245
  let c1_i32_246 : BitVec 32 := 1#32
  let v426 : BitVec 32 := Scalar.select v425 c1_i32_246 c4_i32_244
  let v427 : BitVec 32 := Scalar.remsi v424 v426
  let c0_i32_248 : BitVec 32 := 0#32
  let v429 : BitVec 1 := Scalar.cmpi .slt v427 c0_i32_248
  let c0_i32_249 : BitVec 32 := 0#32
  let v430 : BitVec 1 := Scalar.cmpi .slt v426 c0_i32_249
  let v431 : BitVec 1 := Scalar.xori v429 v430
  let c0_i32_247 : BitVec 32 := 0#32
  let v428 : BitVec 1 := Scalar.cmpi .ne v427 c0_i32_247
  let v432 : BitVec 1 := Scalar.andi v431 v428
  let v433 : BitVec 32 := Scalar.addi v427 v426
  let v434 : BitVec 32 := Scalar.select v432 v433 v427
  let c1_i32_258 : BitVec 32 := 1#32
  let v440 : BitVec 32 := Scalar.muli v434 c1_i32_258
  let v441 : BitVec 32 := Scalar.addi v439 v440
  v441.toNat
def k0_off2 (d0 : Dev nD) : Fin 3 → Nat :=
  let c0_i32_262 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c32_i32 : BitVec 32 := 32#32
  let v11 : BitVec 32 := Scalar.muli v10 c32_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_261 : BitVec 32 := 256#32
  let v450 : BitVec 32 := Scalar.muli v8 c256_i32_261
  ![0, v11.toNat, v450.toNat]
def k0_off3 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c32_i32 : BitVec 32 := 32#32
  let v11 : BitVec 32 := Scalar.muli v10 c32_i32
  let v500 : Index := Scalar.indexCast v11
  let c0_301 : Index := 0#32
  ![v500.toNat, 0]
def k0_off4 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c32_i32 : BitVec 32 := 32#32
  let v11 : BitVec 32 := Scalar.muli v10 c32_i32
  let c0_i32_328 : BitVec 32 := 0#32
  ![v11.toNat, 0]
def k0_dev14 (d0 : Dev nD) : Nat :=
  let c0_i32_325 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c1_i32_302 : BitVec 32 := 1#32
  let v502 : BitVec 32 := Scalar.addi v10 c1_i32_302
  let c8_i32_303 : BitVec 32 := 8#32
  let c0_i32_304 : BitVec 32 := 0#32
  let v503 : BitVec 1 := Scalar.cmpi .eq c8_i32_303 c0_i32_304
  let c1_i32_305 : BitVec 32 := 1#32
  let v504 : BitVec 32 := Scalar.select v503 c1_i32_305 c8_i32_303
  let v505 : BitVec 32 := Scalar.remsi v502 v504
  let c0_i32_307 : BitVec 32 := 0#32
  let v507 : BitVec 1 := Scalar.cmpi .slt v505 c0_i32_307
  let c0_i32_308 : BitVec 32 := 0#32
  let v508 : BitVec 1 := Scalar.cmpi .slt v504 c0_i32_308
  let v509 : BitVec 1 := Scalar.xori v507 v508
  let c0_i32_306 : BitVec 32 := 0#32
  let v506 : BitVec 1 := Scalar.cmpi .ne v505 c0_i32_306
  let v510 : BitVec 1 := Scalar.andi v509 v506
  let v511 : BitVec 32 := Scalar.addi v505 v504
  let v512 : BitVec 32 := Scalar.select v510 v511 v505
  let c0_i32_310 : BitVec 32 := 0#32
  let v514 : BitVec 1 := Scalar.cmpi .sgt v512 c0_i32_310
  let v515 : BitVec 32 := Scalar.extui v514
  let c0_i32_311 : BitVec 32 := 0#32
  let v516 : BitVec 1 := Scalar.cmpi .slt v512 c0_i32_311
  let v517 : BitVec 32 := Scalar.extui v516
  let v518 : BitVec 32 := Scalar.subi v515 v517
  let c4_i32_309 : BitVec 32 := 4#32
  let c0_i32_312 : BitVec 32 := 0#32
  let v519 : BitVec 1 := Scalar.cmpi .sgt c4_i32_309 c0_i32_312
  let v520 : BitVec 32 := Scalar.extui v519
  let c0_i32_313 : BitVec 32 := 0#32
  let v521 : BitVec 1 := Scalar.cmpi .slt c4_i32_309 c0_i32_313
  let v522 : BitVec 32 := Scalar.extui v521
  let v523 : BitVec 32 := Scalar.subi v520 v522
  let v524 : BitVec 1 := Scalar.cmpi .ne v518 v523
  let v525 : BitVec 32 := Scalar.remsi v512 c4_i32_309
  let c0_i32_314 : BitVec 32 := 0#32
  let v526 : BitVec 1 := Scalar.cmpi .ne v525 c0_i32_314
  let v527 : BitVec 1 := Scalar.andi v524 v526
  let v513 : BitVec 32 := Scalar.divsi v512 c4_i32_309
  let c1_i32_315 : BitVec 32 := 1#32
  let v528 : BitVec 32 := Scalar.subi v513 c1_i32_315
  let v529 : BitVec 32 := Scalar.select v527 v528 v513
  let c16_i32_324 : BitVec 32 := 16#32
  let v540 : BitVec 32 := Scalar.muli v529 c16_i32_324
  let v541 : BitVec 32 := Scalar.addi c0_i32_325 v540
  let c4_i32_316 : BitVec 32 := 4#32
  let c0_i32_317 : BitVec 32 := 0#32
  let v530 : BitVec 1 := Scalar.cmpi .eq c4_i32_316 c0_i32_317
  let c1_i32_318 : BitVec 32 := 1#32
  let v531 : BitVec 32 := Scalar.select v530 c1_i32_318 c4_i32_316
  let v532 : BitVec 32 := Scalar.remsi v512 v531
  let c0_i32_320 : BitVec 32 := 0#32
  let v534 : BitVec 1 := Scalar.cmpi .slt v532 c0_i32_320
  let c0_i32_321 : BitVec 32 := 0#32
  let v535 : BitVec 1 := Scalar.cmpi .slt v531 c0_i32_321
  let v536 : BitVec 1 := Scalar.xori v534 v535
  let c0_i32_319 : BitVec 32 := 0#32
  let v533 : BitVec 1 := Scalar.cmpi .ne v532 c0_i32_319
  let v537 : BitVec 1 := Scalar.andi v536 v533
  let v538 : BitVec 32 := Scalar.addi v532 v531
  let v539 : BitVec 32 := Scalar.select v537 v538 v532
  let c4_i32_326 : BitVec 32 := 4#32
  let v542 : BitVec 32 := Scalar.muli v539 c4_i32_326
  let v543 : BitVec 32 := Scalar.addi v541 v542
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_327 : BitVec 32 := 1#32
  let v544 : BitVec 32 := Scalar.muli v8 c1_i32_327
  let v545 : BitVec 32 := Scalar.addi v543 v544
  v545.toNat
def k0_dev15 (d0 : Dev nD) : Nat :=
  let c0_i32_353 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c2_i32_330 : BitVec 32 := 2#32
  let v552 : BitVec 32 := Scalar.addi v10 c2_i32_330
  let c8_i32_331 : BitVec 32 := 8#32
  let c0_i32_332 : BitVec 32 := 0#32
  let v553 : BitVec 1 := Scalar.cmpi .eq c8_i32_331 c0_i32_332
  let c1_i32_333 : BitVec 32 := 1#32
  let v554 : BitVec 32 := Scalar.select v553 c1_i32_333 c8_i32_331
  let v555 : BitVec 32 := Scalar.remsi v552 v554
  let c0_i32_335 : BitVec 32 := 0#32
  let v557 : BitVec 1 := Scalar.cmpi .slt v555 c0_i32_335
  let c0_i32_336 : BitVec 32 := 0#32
  let v558 : BitVec 1 := Scalar.cmpi .slt v554 c0_i32_336
  let v559 : BitVec 1 := Scalar.xori v557 v558
  let c0_i32_334 : BitVec 32 := 0#32
  let v556 : BitVec 1 := Scalar.cmpi .ne v555 c0_i32_334
  let v560 : BitVec 1 := Scalar.andi v559 v556
  let v561 : BitVec 32 := Scalar.addi v555 v554
  let v562 : BitVec 32 := Scalar.select v560 v561 v555
  let c0_i32_338 : BitVec 32 := 0#32
  let v564 : BitVec 1 := Scalar.cmpi .sgt v562 c0_i32_338
  let v565 : BitVec 32 := Scalar.extui v564
  let c0_i32_339 : BitVec 32 := 0#32
  let v566 : BitVec 1 := Scalar.cmpi .slt v562 c0_i32_339
  let v567 : BitVec 32 := Scalar.extui v566
  let v568 : BitVec 32 := Scalar.subi v565 v567
  let c4_i32_337 : BitVec 32 := 4#32
  let c0_i32_340 : BitVec 32 := 0#32
  let v569 : BitVec 1 := Scalar.cmpi .sgt c4_i32_337 c0_i32_340
  let v570 : BitVec 32 := Scalar.extui v569
  let c0_i32_341 : BitVec 32 := 0#32
  let v571 : BitVec 1 := Scalar.cmpi .slt c4_i32_337 c0_i32_341
  let v572 : BitVec 32 := Scalar.extui v571
  let v573 : BitVec 32 := Scalar.subi v570 v572
  let v574 : BitVec 1 := Scalar.cmpi .ne v568 v573
  let v575 : BitVec 32 := Scalar.remsi v562 c4_i32_337
  let c0_i32_342 : BitVec 32 := 0#32
  let v576 : BitVec 1 := Scalar.cmpi .ne v575 c0_i32_342
  let v577 : BitVec 1 := Scalar.andi v574 v576
  let v563 : BitVec 32 := Scalar.divsi v562 c4_i32_337
  let c1_i32_343 : BitVec 32 := 1#32
  let v578 : BitVec 32 := Scalar.subi v563 c1_i32_343
  let v579 : BitVec 32 := Scalar.select v577 v578 v563
  let c16_i32_352 : BitVec 32 := 16#32
  let v590 : BitVec 32 := Scalar.muli v579 c16_i32_352
  let v591 : BitVec 32 := Scalar.addi c0_i32_353 v590
  let c4_i32_344 : BitVec 32 := 4#32
  let c0_i32_345 : BitVec 32 := 0#32
  let v580 : BitVec 1 := Scalar.cmpi .eq c4_i32_344 c0_i32_345
  let c1_i32_346 : BitVec 32 := 1#32
  let v581 : BitVec 32 := Scalar.select v580 c1_i32_346 c4_i32_344
  let v582 : BitVec 32 := Scalar.remsi v562 v581
  let c0_i32_348 : BitVec 32 := 0#32
  let v584 : BitVec 1 := Scalar.cmpi .slt v582 c0_i32_348
  let c0_i32_349 : BitVec 32 := 0#32
  let v585 : BitVec 1 := Scalar.cmpi .slt v581 c0_i32_349
  let v586 : BitVec 1 := Scalar.xori v584 v585
  let c0_i32_347 : BitVec 32 := 0#32
  let v583 : BitVec 1 := Scalar.cmpi .ne v582 c0_i32_347
  let v587 : BitVec 1 := Scalar.andi v586 v583
  let v588 : BitVec 32 := Scalar.addi v582 v581
  let v589 : BitVec 32 := Scalar.select v587 v588 v582
  let c4_i32_354 : BitVec 32 := 4#32
  let v592 : BitVec 32 := Scalar.muli v589 c4_i32_354
  let v593 : BitVec 32 := Scalar.addi v591 v592
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_355 : BitVec 32 := 1#32
  let v594 : BitVec 32 := Scalar.muli v8 c1_i32_355
  let v595 : BitVec 32 := Scalar.addi v593 v594
  v595.toNat
def k0_dev16 (d0 : Dev nD) : Nat :=
  let c0_i32_381 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c3_i32_358 : BitVec 32 := 3#32
  let v602 : BitVec 32 := Scalar.addi v10 c3_i32_358
  let c8_i32_359 : BitVec 32 := 8#32
  let c0_i32_360 : BitVec 32 := 0#32
  let v603 : BitVec 1 := Scalar.cmpi .eq c8_i32_359 c0_i32_360
  let c1_i32_361 : BitVec 32 := 1#32
  let v604 : BitVec 32 := Scalar.select v603 c1_i32_361 c8_i32_359
  let v605 : BitVec 32 := Scalar.remsi v602 v604
  let c0_i32_363 : BitVec 32 := 0#32
  let v607 : BitVec 1 := Scalar.cmpi .slt v605 c0_i32_363
  let c0_i32_364 : BitVec 32 := 0#32
  let v608 : BitVec 1 := Scalar.cmpi .slt v604 c0_i32_364
  let v609 : BitVec 1 := Scalar.xori v607 v608
  let c0_i32_362 : BitVec 32 := 0#32
  let v606 : BitVec 1 := Scalar.cmpi .ne v605 c0_i32_362
  let v610 : BitVec 1 := Scalar.andi v609 v606
  let v611 : BitVec 32 := Scalar.addi v605 v604
  let v612 : BitVec 32 := Scalar.select v610 v611 v605
  let c0_i32_366 : BitVec 32 := 0#32
  let v614 : BitVec 1 := Scalar.cmpi .sgt v612 c0_i32_366
  let v615 : BitVec 32 := Scalar.extui v614
  let c0_i32_367 : BitVec 32 := 0#32
  let v616 : BitVec 1 := Scalar.cmpi .slt v612 c0_i32_367
  let v617 : BitVec 32 := Scalar.extui v616
  let v618 : BitVec 32 := Scalar.subi v615 v617
  let c4_i32_365 : BitVec 32 := 4#32
  let c0_i32_368 : BitVec 32 := 0#32
  let v619 : BitVec 1 := Scalar.cmpi .sgt c4_i32_365 c0_i32_368
  let v620 : BitVec 32 := Scalar.extui v619
  let c0_i32_369 : BitVec 32 := 0#32
  let v621 : BitVec 1 := Scalar.cmpi .slt c4_i32_365 c0_i32_369
  let v622 : BitVec 32 := Scalar.extui v621
  let v623 : BitVec 32 := Scalar.subi v620 v622
  let v624 : BitVec 1 := Scalar.cmpi .ne v618 v623
  let v625 : BitVec 32 := Scalar.remsi v612 c4_i32_365
  let c0_i32_370 : BitVec 32 := 0#32
  let v626 : BitVec 1 := Scalar.cmpi .ne v625 c0_i32_370
  let v627 : BitVec 1 := Scalar.andi v624 v626
  let v613 : BitVec 32 := Scalar.divsi v612 c4_i32_365
  let c1_i32_371 : BitVec 32 := 1#32
  let v628 : BitVec 32 := Scalar.subi v613 c1_i32_371
  let v629 : BitVec 32 := Scalar.select v627 v628 v613
  let c16_i32_380 : BitVec 32 := 16#32
  let v640 : BitVec 32 := Scalar.muli v629 c16_i32_380
  let v641 : BitVec 32 := Scalar.addi c0_i32_381 v640
  let c4_i32_372 : BitVec 32 := 4#32
  let c0_i32_373 : BitVec 32 := 0#32
  let v630 : BitVec 1 := Scalar.cmpi .eq c4_i32_372 c0_i32_373
  let c1_i32_374 : BitVec 32 := 1#32
  let v631 : BitVec 32 := Scalar.select v630 c1_i32_374 c4_i32_372
  let v632 : BitVec 32 := Scalar.remsi v612 v631
  let c0_i32_376 : BitVec 32 := 0#32
  let v634 : BitVec 1 := Scalar.cmpi .slt v632 c0_i32_376
  let c0_i32_377 : BitVec 32 := 0#32
  let v635 : BitVec 1 := Scalar.cmpi .slt v631 c0_i32_377
  let v636 : BitVec 1 := Scalar.xori v634 v635
  let c0_i32_375 : BitVec 32 := 0#32
  let v633 : BitVec 1 := Scalar.cmpi .ne v632 c0_i32_375
  let v637 : BitVec 1 := Scalar.andi v636 v633
  let v638 : BitVec 32 := Scalar.addi v632 v631
  let v639 : BitVec 32 := Scalar.select v637 v638 v632
  let c4_i32_382 : BitVec 32 := 4#32
  let v642 : BitVec 32 := Scalar.muli v639 c4_i32_382
  let v643 : BitVec 32 := Scalar.addi v641 v642
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_383 : BitVec 32 := 1#32
  let v644 : BitVec 32 := Scalar.muli v8 c1_i32_383
  let v645 : BitVec 32 := Scalar.addi v643 v644
  v645.toNat
def k0_dev17 (d0 : Dev nD) : Nat :=
  let c0_i32_409 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c4_i32_386 : BitVec 32 := 4#32
  let v652 : BitVec 32 := Scalar.addi v10 c4_i32_386
  let c8_i32_387 : BitVec 32 := 8#32
  let c0_i32_388 : BitVec 32 := 0#32
  let v653 : BitVec 1 := Scalar.cmpi .eq c8_i32_387 c0_i32_388
  let c1_i32_389 : BitVec 32 := 1#32
  let v654 : BitVec 32 := Scalar.select v653 c1_i32_389 c8_i32_387
  let v655 : BitVec 32 := Scalar.remsi v652 v654
  let c0_i32_391 : BitVec 32 := 0#32
  let v657 : BitVec 1 := Scalar.cmpi .slt v655 c0_i32_391
  let c0_i32_392 : BitVec 32 := 0#32
  let v658 : BitVec 1 := Scalar.cmpi .slt v654 c0_i32_392
  let v659 : BitVec 1 := Scalar.xori v657 v658
  let c0_i32_390 : BitVec 32 := 0#32
  let v656 : BitVec 1 := Scalar.cmpi .ne v655 c0_i32_390
  let v660 : BitVec 1 := Scalar.andi v659 v656
  let v661 : BitVec 32 := Scalar.addi v655 v654
  let v662 : BitVec 32 := Scalar.select v660 v661 v655
  let c0_i32_394 : BitVec 32 := 0#32
  let v664 : BitVec 1 := Scalar.cmpi .sgt v662 c0_i32_394
  let v665 : BitVec 32 := Scalar.extui v664
  let c0_i32_395 : BitVec 32 := 0#32
  let v666 : BitVec 1 := Scalar.cmpi .slt v662 c0_i32_395
  let v667 : BitVec 32 := Scalar.extui v666
  let v668 : BitVec 32 := Scalar.subi v665 v667
  let c4_i32_393 : BitVec 32 := 4#32
  let c0_i32_396 : BitVec 32 := 0#32
  let v669 : BitVec 1 := Scalar.cmpi .sgt c4_i32_393 c0_i32_396
  let v670 : BitVec 32 := Scalar.extui v669
  let c0_i32_397 : BitVec 32 := 0#32
  let v671 : BitVec 1 := Scalar.cmpi .slt c4_i32_393 c0_i32_397
  let v672 : BitVec 32 := Scalar.extui v671
  let v673 : BitVec 32 := Scalar.subi v670 v672
  let v674 : BitVec 1 := Scalar.cmpi .ne v668 v673
  let v675 : BitVec 32 := Scalar.remsi v662 c4_i32_393
  let c0_i32_398 : BitVec 32 := 0#32
  let v676 : BitVec 1 := Scalar.cmpi .ne v675 c0_i32_398
  let v677 : BitVec 1 := Scalar.andi v674 v676
  let v663 : BitVec 32 := Scalar.divsi v662 c4_i32_393
  let c1_i32_399 : BitVec 32 := 1#32
  let v678 : BitVec 32 := Scalar.subi v663 c1_i32_399
  let v679 : BitVec 32 := Scalar.select v677 v678 v663
  let c16_i32_408 : BitVec 32 := 16#32
  let v690 : BitVec 32 := Scalar.muli v679 c16_i32_408
  let v691 : BitVec 32 := Scalar.addi c0_i32_409 v690
  let c4_i32_400 : BitVec 32 := 4#32
  let c0_i32_401 : BitVec 32 := 0#32
  let v680 : BitVec 1 := Scalar.cmpi .eq c4_i32_400 c0_i32_401
  let c1_i32_402 : BitVec 32 := 1#32
  let v681 : BitVec 32 := Scalar.select v680 c1_i32_402 c4_i32_400
  let v682 : BitVec 32 := Scalar.remsi v662 v681
  let c0_i32_404 : BitVec 32 := 0#32
  let v684 : BitVec 1 := Scalar.cmpi .slt v682 c0_i32_404
  let c0_i32_405 : BitVec 32 := 0#32
  let v685 : BitVec 1 := Scalar.cmpi .slt v681 c0_i32_405
  let v686 : BitVec 1 := Scalar.xori v684 v685
  let c0_i32_403 : BitVec 32 := 0#32
  let v683 : BitVec 1 := Scalar.cmpi .ne v682 c0_i32_403
  let v687 : BitVec 1 := Scalar.andi v686 v683
  let v688 : BitVec 32 := Scalar.addi v682 v681
  let v689 : BitVec 32 := Scalar.select v687 v688 v682
  let c4_i32_410 : BitVec 32 := 4#32
  let v692 : BitVec 32 := Scalar.muli v689 c4_i32_410
  let v693 : BitVec 32 := Scalar.addi v691 v692
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_411 : BitVec 32 := 1#32
  let v694 : BitVec 32 := Scalar.muli v8 c1_i32_411
  let v695 : BitVec 32 := Scalar.addi v693 v694
  v695.toNat
def k0_dev18 (d0 : Dev nD) : Nat :=
  let c0_i32_437 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c5_i32_414 : BitVec 32 := 5#32
  let v702 : BitVec 32 := Scalar.addi v10 c5_i32_414
  let c8_i32_415 : BitVec 32 := 8#32
  let c0_i32_416 : BitVec 32 := 0#32
  let v703 : BitVec 1 := Scalar.cmpi .eq c8_i32_415 c0_i32_416
  let c1_i32_417 : BitVec 32 := 1#32
  let v704 : BitVec 32 := Scalar.select v703 c1_i32_417 c8_i32_415
  let v705 : BitVec 32 := Scalar.remsi v702 v704
  let c0_i32_419 : BitVec 32 := 0#32
  let v707 : BitVec 1 := Scalar.cmpi .slt v705 c0_i32_419
  let c0_i32_420 : BitVec 32 := 0#32
  let v708 : BitVec 1 := Scalar.cmpi .slt v704 c0_i32_420
  let v709 : BitVec 1 := Scalar.xori v707 v708
  let c0_i32_418 : BitVec 32 := 0#32
  let v706 : BitVec 1 := Scalar.cmpi .ne v705 c0_i32_418
  let v710 : BitVec 1 := Scalar.andi v709 v706
  let v711 : BitVec 32 := Scalar.addi v705 v704
  let v712 : BitVec 32 := Scalar.select v710 v711 v705
  let c0_i32_422 : BitVec 32 := 0#32
  let v714 : BitVec 1 := Scalar.cmpi .sgt v712 c0_i32_422
  let v715 : BitVec 32 := Scalar.extui v714
  let c0_i32_423 : BitVec 32 := 0#32
  let v716 : BitVec 1 := Scalar.cmpi .slt v712 c0_i32_423
  let v717 : BitVec 32 := Scalar.extui v716
  let v718 : BitVec 32 := Scalar.subi v715 v717
  let c4_i32_421 : BitVec 32 := 4#32
  let c0_i32_424 : BitVec 32 := 0#32
  let v719 : BitVec 1 := Scalar.cmpi .sgt c4_i32_421 c0_i32_424
  let v720 : BitVec 32 := Scalar.extui v719
  let c0_i32_425 : BitVec 32 := 0#32
  let v721 : BitVec 1 := Scalar.cmpi .slt c4_i32_421 c0_i32_425
  let v722 : BitVec 32 := Scalar.extui v721
  let v723 : BitVec 32 := Scalar.subi v720 v722
  let v724 : BitVec 1 := Scalar.cmpi .ne v718 v723
  let v725 : BitVec 32 := Scalar.remsi v712 c4_i32_421
  let c0_i32_426 : BitVec 32 := 0#32
  let v726 : BitVec 1 := Scalar.cmpi .ne v725 c0_i32_426
  let v727 : BitVec 1 := Scalar.andi v724 v726
  let v713 : BitVec 32 := Scalar.divsi v712 c4_i32_421
  let c1_i32_427 : BitVec 32 := 1#32
  let v728 : BitVec 32 := Scalar.subi v713 c1_i32_427
  let v729 : BitVec 32 := Scalar.select v727 v728 v713
  let c16_i32_436 : BitVec 32 := 16#32
  let v740 : BitVec 32 := Scalar.muli v729 c16_i32_436
  let v741 : BitVec 32 := Scalar.addi c0_i32_437 v740
  let c4_i32_428 : BitVec 32 := 4#32
  let c0_i32_429 : BitVec 32 := 0#32
  let v730 : BitVec 1 := Scalar.cmpi .eq c4_i32_428 c0_i32_429
  let c1_i32_430 : BitVec 32 := 1#32
  let v731 : BitVec 32 := Scalar.select v730 c1_i32_430 c4_i32_428
  let v732 : BitVec 32 := Scalar.remsi v712 v731
  let c0_i32_432 : BitVec 32 := 0#32
  let v734 : BitVec 1 := Scalar.cmpi .slt v732 c0_i32_432
  let c0_i32_433 : BitVec 32 := 0#32
  let v735 : BitVec 1 := Scalar.cmpi .slt v731 c0_i32_433
  let v736 : BitVec 1 := Scalar.xori v734 v735
  let c0_i32_431 : BitVec 32 := 0#32
  let v733 : BitVec 1 := Scalar.cmpi .ne v732 c0_i32_431
  let v737 : BitVec 1 := Scalar.andi v736 v733
  let v738 : BitVec 32 := Scalar.addi v732 v731
  let v739 : BitVec 32 := Scalar.select v737 v738 v732
  let c4_i32_438 : BitVec 32 := 4#32
  let v742 : BitVec 32 := Scalar.muli v739 c4_i32_438
  let v743 : BitVec 32 := Scalar.addi v741 v742
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_439 : BitVec 32 := 1#32
  let v744 : BitVec 32 := Scalar.muli v8 c1_i32_439
  let v745 : BitVec 32 := Scalar.addi v743 v744
  v745.toNat
def k0_dev19 (d0 : Dev nD) : Nat :=
  let c0_i32_465 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c6_i32_442 : BitVec 32 := 6#32
  let v752 : BitVec 32 := Scalar.addi v10 c6_i32_442
  let c8_i32_443 : BitVec 32 := 8#32
  let c0_i32_444 : BitVec 32 := 0#32
  let v753 : BitVec 1 := Scalar.cmpi .eq c8_i32_443 c0_i32_444
  let c1_i32_445 : BitVec 32 := 1#32
  let v754 : BitVec 32 := Scalar.select v753 c1_i32_445 c8_i32_443
  let v755 : BitVec 32 := Scalar.remsi v752 v754
  let c0_i32_447 : BitVec 32 := 0#32
  let v757 : BitVec 1 := Scalar.cmpi .slt v755 c0_i32_447
  let c0_i32_448 : BitVec 32 := 0#32
  let v758 : BitVec 1 := Scalar.cmpi .slt v754 c0_i32_448
  let v759 : BitVec 1 := Scalar.xori v757 v758
  let c0_i32_446 : BitVec 32 := 0#32
  let v756 : BitVec 1 := Scalar.cmpi .ne v755 c0_i32_446
  let v760 : BitVec 1 := Scalar.andi v759 v756
  let v761 : BitVec 32 := Scalar.addi v755 v754
  let v762 : BitVec 32 := Scalar.select v760 v761 v755
  let c0_i32_450 : BitVec 32 := 0#32
  let v764 : BitVec 1 := Scalar.cmpi .sgt v762 c0_i32_450
  let v765 : BitVec 32 := Scalar.extui v764
  let c0_i32_451 : BitVec 32 := 0#32
  let v766 : BitVec 1 := Scalar.cmpi .slt v762 c0_i32_451
  let v767 : BitVec 32 := Scalar.extui v766
  let v768 : BitVec 32 := Scalar.subi v765 v767
  let c4_i32_449 : BitVec 32 := 4#32
  let c0_i32_452 : BitVec 32 := 0#32
  let v769 : BitVec 1 := Scalar.cmpi .sgt c4_i32_449 c0_i32_452
  let v770 : BitVec 32 := Scalar.extui v769
  let c0_i32_453 : BitVec 32 := 0#32
  let v771 : BitVec 1 := Scalar.cmpi .slt c4_i32_449 c0_i32_453
  let v772 : BitVec 32 := Scalar.extui v771
  let v773 : BitVec 32 := Scalar.subi v770 v772
  let v774 : BitVec 1 := Scalar.cmpi .ne v768 v773
  let v775 : BitVec 32 := Scalar.remsi v762 c4_i32_449
  let c0_i32_454 : BitVec 32 := 0#32
  let v776 : BitVec 1 := Scalar.cmpi .ne v775 c0_i32_454
  let v777 : BitVec 1 := Scalar.andi v774 v776
  let v763 : BitVec 32 := Scalar.divsi v762 c4_i32_449
  let c1_i32_455 : BitVec 32 := 1#32
  let v778 : BitVec 32 := Scalar.subi v763 c1_i32_455
  let v779 : BitVec 32 := Scalar.select v777 v778 v763
  let c16_i32_464 : BitVec 32 := 16#32
  let v790 : BitVec 32 := Scalar.muli v779 c16_i32_464
  let v791 : BitVec 32 := Scalar.addi c0_i32_465 v790
  let c4_i32_456 : BitVec 32 := 4#32
  let c0_i32_457 : BitVec 32 := 0#32
  let v780 : BitVec 1 := Scalar.cmpi .eq c4_i32_456 c0_i32_457
  let c1_i32_458 : BitVec 32 := 1#32
  let v781 : BitVec 32 := Scalar.select v780 c1_i32_458 c4_i32_456
  let v782 : BitVec 32 := Scalar.remsi v762 v781
  let c0_i32_460 : BitVec 32 := 0#32
  let v784 : BitVec 1 := Scalar.cmpi .slt v782 c0_i32_460
  let c0_i32_461 : BitVec 32 := 0#32
  let v785 : BitVec 1 := Scalar.cmpi .slt v781 c0_i32_461
  let v786 : BitVec 1 := Scalar.xori v784 v785
  let c0_i32_459 : BitVec 32 := 0#32
  let v783 : BitVec 1 := Scalar.cmpi .ne v782 c0_i32_459
  let v787 : BitVec 1 := Scalar.andi v786 v783
  let v788 : BitVec 32 := Scalar.addi v782 v781
  let v789 : BitVec 32 := Scalar.select v787 v788 v782
  let c4_i32_466 : BitVec 32 := 4#32
  let v792 : BitVec 32 := Scalar.muli v789 c4_i32_466
  let v793 : BitVec 32 := Scalar.addi v791 v792
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_467 : BitVec 32 := 1#32
  let v794 : BitVec 32 := Scalar.muli v8 c1_i32_467
  let v795 : BitVec 32 := Scalar.addi v793 v794
  v795.toNat
def k0_dev20 (d0 : Dev nD) : Nat :=
  let c0_i32_493 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c7_i32_470 : BitVec 32 := 7#32
  let v802 : BitVec 32 := Scalar.addi v10 c7_i32_470
  let c8_i32_471 : BitVec 32 := 8#32
  let c0_i32_472 : BitVec 32 := 0#32
  let v803 : BitVec 1 := Scalar.cmpi .eq c8_i32_471 c0_i32_472
  let c1_i32_473 : BitVec 32 := 1#32
  let v804 : BitVec 32 := Scalar.select v803 c1_i32_473 c8_i32_471
  let v805 : BitVec 32 := Scalar.remsi v802 v804
  let c0_i32_475 : BitVec 32 := 0#32
  let v807 : BitVec 1 := Scalar.cmpi .slt v805 c0_i32_475
  let c0_i32_476 : BitVec 32 := 0#32
  let v808 : BitVec 1 := Scalar.cmpi .slt v804 c0_i32_476
  let v809 : BitVec 1 := Scalar.xori v807 v808
  let c0_i32_474 : BitVec 32 := 0#32
  let v806 : BitVec 1 := Scalar.cmpi .ne v805 c0_i32_474
  let v810 : BitVec 1 := Scalar.andi v809 v806
  let v811 : BitVec 32 := Scalar.addi v805 v804
  let v812 : BitVec 32 := Scalar.select v810 v811 v805
  let c0_i32_478 : BitVec 32 := 0#32
  let v814 : BitVec 1 := Scalar.cmpi .sgt v812 c0_i32_478
  let v815 : BitVec 32 := Scalar.extui v814
  let c0_i32_479 : BitVec 32 := 0#32
  let v816 : BitVec 1 := Scalar.cmpi .slt v812 c0_i32_479
  let v817 : BitVec 32 := Scalar.extui v816
  let v818 : BitVec 32 := Scalar.subi v815 v817
  let c4_i32_477 : BitVec 32 := 4#32
  let c0_i32_480 : BitVec 32 := 0#32
  let v819 : BitVec 1 := Scalar.cmpi .sgt c4_i32_477 c0_i32_480
  let v820 : BitVec 32 := Scalar.extui v819
  let c0_i32_481 : BitVec 32 := 0#32
  let v821 : BitVec 1 := Scalar.cmpi .slt c4_i32_477 c0_i32_481
  let v822 : BitVec 32 := Scalar.extui v821
  let v823 : BitVec 32 := Scalar.subi v820 v822
  let v824 : BitVec 1 := Scalar.cmpi .ne v818 v823
  let v825 : BitVec 32 := Scalar.remsi v812 c4_i32_477
  let c0_i32_482 : BitVec 32 := 0#32
  let v826 : BitVec 1 := Scalar.cmpi .ne v825 c0_i32_482
  let v827 : BitVec 1 := Scalar.andi v824 v826
  let v813 : BitVec 32 := Scalar.divsi v812 c4_i32_477
  let c1_i32_483 : BitVec 32 := 1#32
  let v828 : BitVec 32 := Scalar.subi v813 c1_i32_483
  let v829 : BitVec 32 := Scalar.select v827 v828 v813
  let c16_i32_492 : BitVec 32 := 16#32
  let v840 : BitVec 32 := Scalar.muli v829 c16_i32_492
  let v841 : BitVec 32 := Scalar.addi c0_i32_493 v840
  let c4_i32_484 : BitVec 32 := 4#32
  let c0_i32_485 : BitVec 32 := 0#32
  let v830 : BitVec 1 := Scalar.cmpi .eq c4_i32_484 c0_i32_485
  let c1_i32_486 : BitVec 32 := 1#32
  let v831 : BitVec 32 := Scalar.select v830 c1_i32_486 c4_i32_484
  let v832 : BitVec 32 := Scalar.remsi v812 v831
  let c0_i32_488 : BitVec 32 := 0#32
  let v834 : BitVec 1 := Scalar.cmpi .slt v832 c0_i32_488
  let c0_i32_489 : BitVec 32 := 0#32
  let v835 : BitVec 1 := Scalar.cmpi .slt v831 c0_i32_489
  let v836 : BitVec 1 := Scalar.xori v834 v835
  let c0_i32_487 : BitVec 32 := 0#32
  let v833 : BitVec 1 := Scalar.cmpi .ne v832 c0_i32_487
  let v837 : BitVec 1 := Scalar.andi v836 v833
  let v838 : BitVec 32 := Scalar.addi v832 v831
  let v839 : BitVec 32 := Scalar.select v837 v838 v832
  let c4_i32_494 : BitVec 32 := 4#32
  let v842 : BitVec 32 := Scalar.muli v839 c4_i32_494
  let v843 : BitVec 32 := Scalar.addi v841 v842
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_495 : BitVec 32 := 1#32
  let v844 : BitVec 32 := Scalar.muli v8 c1_i32_495
  let v845 : BitVec 32 := Scalar.addi v843 v844
  v845.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x256x1024 : Shape := ⟨3, ![4, 256, 1024]⟩
abbrev S_ : Shape := ⟨0, ![]⟩
abbrev S256x1024 : Shape := ⟨2, ![256, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S_, .f32⟩
  | .hbm, ⟨2, _⟩ => ⟨S256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Lanes.lean ====
/-
# The lanes of the kernel and its body as loops over them

Device `c = 16 x + 4 y + z` of the 2 × 4 × 4 mesh talks to ten others: the three that differ from it in `z` only
(the first phase, an exchange of pieces to be added up) and the seven of its own `z` (the second phase, which passes
the finished rows round). A LANE names one of these ten directions. Everything the kernel does towards another device
it does once per lane, so its body is a few loops over lists of lanes; this file writes it that way and checks that the
printed body is the same program.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelIdeal.Coll

open Cert.KernelIdeal Cert.KernelIdeal.Gen

open Idealize.ShloMosaic
open Idealize.ShloMosaic.TcCoe
open Idealize.SL Idealize.SL.Sem

variable {F : FTy → Type} [FloatOps F]

/-! ## Lanes -/

/-- A direction of communication: one of the three of the exchange, or one of the seven of the pass round. -/
abbrev Lane : Type := Fin 3 ⊕ Fin 7

/-- The device at the far end of a lane. -/
def peer (c : Dev nD) : Lane → Dev nD
  | .inl k => ⟨4 * (c.val / 4) + (c.val % 4 + k.val + 1) % 4, by have := c.isLt; simp only [nD] at *; omega⟩
  | .inr k => ⟨4 * ((c.val / 4 + k.val + 1) % 8) + c.val % 4, by have := c.isLt; simp only [nD] at *; omega⟩

/-- The lane by which the far end sees this device. -/
def dual : Lane → Lane
  | .inl k => .inl k.rev
  | .inr k => .inr k.rev

/-- Seen twice from the other end, a lane is itself. -/
theorem dual_dual (i : Lane) : dual (dual i) = i := by revert i; decide
/-- Going along a lane and back ends where it began. -/
theorem peer_dual (c : Dev nD) (i : Lane) : peer (peer c i) (dual i) = c := by revert c i; decide +kernel
/-- Going back along a lane and then along it ends where it began. -/
theorem peer_dual' (c : Dev nD) (i : Lane) : peer (peer c (dual i)) i = c := by revert c i; decide +kernel
/-- Different lanes are different from the other end. -/
theorem dual_injective : Function.Injective dual := fun a b h => by rw [← dual_dual a, h, dual_dual]
/-- Along one lane, different devices reach different devices. -/
theorem peer_injective (i : Lane) : Function.Injective fun c => peer c i :=
  fun a b h => by rw [← peer_dual a i, ← peer_dual b i]; exact congrArg (fun d => peer d (dual i)) h

/-- Going along one lane, as a rearrangement of the devices. -/
def along (i : Lane) : Dev nD ≃ Dev nD := ⟨fun c => peer c i, fun c => peer c (dual i), fun c => peer_dual c i, fun c => peer_dual' c i⟩

/-- The exchange lanes, in the order the kernel takes them. -/
abbrev zLanes : List Lane := [.inl 0, .inl 1, .inl 2]
/-- The pass-round lanes, in the order the kernel takes them. -/
abbrev gLanes : List Lane := [.inr 0, .inr 1, .inr 2, .inr 3, .inr 4, .inr 5, .inr 6]
/-- All the lanes, in the order the kernel signals along them. -/
abbrev lanes : List Lane := [.inl 0, .inl 1, .inl 2, .inr 0, .inr 1, .inr 2, .inr 3, .inr 4, .inr 5, .inr 6]

/-- The device the kernel's entry signal of each lane names, as it computes it. -/
def sigDev (d : Dev nD) : Lane → Dev nD
  | .inl 0 => ⟨k0_dev1 d, k0_dev1_lt d⟩
  | .inl 1 => ⟨k0_dev2 d, k0_dev2_lt d⟩
  | .inl 2 => ⟨k0_dev3 d, k0_dev3_lt d⟩
  | .inr 0 => ⟨k0_dev4 d, k0_dev4_lt d⟩
  | .inr 1 => ⟨k0_dev5 d, k0_dev5_lt d⟩
  | .inr 2 => ⟨k0_dev6 d, k0_dev6_lt d⟩
  | .inr 3 => ⟨k0_dev7 d, k0_dev7_lt d⟩
  | .inr 4 => ⟨k0_dev8 d, k0_dev8_lt d⟩
  | .inr 5 => ⟨k0_dev9 d, k0_dev9_lt d⟩
  | .inr 6 => ⟨k0_dev10 d, k0_dev10_lt d⟩

/-- The device the kernel's transfer of each lane is addressed to, as it computes it. -/
def toDev (d : Dev nD) : Lane → Dev nD
  | .inl 0 => ⟨k0_dev11 d, k0_dev11_lt d⟩
  | .inl 1 => ⟨k0_dev12 d, k0_dev12_lt d⟩
  | .inl 2 => ⟨k0_dev13 d, k0_dev13_lt d⟩
  | .inr 0 => ⟨k0_dev14 d, k0_dev14_lt d⟩
  | .inr 1 => ⟨k0_dev15 d, k0_dev15_lt d⟩
  | .inr 2 => ⟨k0_dev16 d, k0_dev16_lt d⟩
  | .inr 3 => ⟨k0_dev17 d, k0_dev17_lt d⟩
  | .inr 4 => ⟨k0_dev18 d, k0_dev18_lt d⟩
  | .inr 5 => ⟨k0_dev19 d, k0_dev19_lt d⟩
  | .inr 6 => ⟨k0_dev20 d, k0_dev20_lt d⟩

/-- The device signalled for a lane is the one at its far end. -/
theorem sigDev_eq (d : Dev nD) (i : Lane) : sigDev d i = peer d i := by revert d i; decide +kernel
/-- The device a transfer goes to is the one at the far end of its lane. -/
theorem toDev_eq (d : Dev nD) (i : Lane) : toDev d i = peer d i := by revert d i; decide +kernel

/-! ## Memrefs and semaphores -/

/-- The staged argument. -/
abbrev xM : Memref sig .tc .vmem S1x256x1024 .f32 := Memref.whole cc0_stg0_0
/-- The staged result. -/
abbrev oM : Memref sig .tc .vmem S256x256 .f32 := Memref.whole cc0_stg1_0
/-- The landing buffer. -/
abbrev rM : Memref sig .tc .vmem S3x32x256 .f32 := Memref.whole cc0_scratch0

/-- Each slot lies inside the landing buffer. -/
theorem slot_inb (k : Fin 3) : ∀ a, (![k.val, 0, 0] : Fin 3 → Nat) a + S1x32x256.size a ≤ S3x32x256.size a := by revert k; decide

/-- The rectangle of the staged input that goes along exchange lane `k`, the one this device keeps, and the slots of the landing buffer. -/
abbrev pieceRect (d : Dev nD) (k : Fin 3) : Rect S1x256x1024 :=
  Rect.unit (s := S1x256x1024) (k0_off1 d (BitVec.ofNat 32 (1 + k.val))) S1x32x256.size (k0_off1_inb d k)
/-- A device's own addends. -/
abbrev ownRect (d : Dev nD) : Rect S1x256x1024 := Rect.unit (s := S1x256x1024) (k0_off2 d) S1x32x256.size (k0_off2_inb d)
/-- A slot of the landing buffer. -/
abbrev slotRect (k : Fin 3) : Rect S3x32x256 := Rect.unit (s := S3x32x256) ![k.val, 0, 0] S1x32x256.size (slot_inb k)
/-- This device's rows of the result. -/
abbrev rowsRect (d : Dev nD) : Rect S256x256 := Rect.unit (s := S256x256) (k0_off4 d) S32x256.size (k0_off4_inb d)

/-- The piece of the argument that goes out along an exchange lane. -/
abbrev pieceM (d : Dev nD) (k : Fin 3) : Memref sig .tc .vmem S32x256 .f32 :=
  (xM.slice (pieceRect d k) (fun _ => rfl)).squeeze S32x256 squeezes_S1x32x256_S32x256
/-- A device's own piece of its argument. -/
abbrev ownM (d : Dev nD) : Memref sig .tc .vmem S32x256 .f32 :=
  (xM.slice (ownRect d) (fun _ => rfl)).squeeze S32x256 squeezes_S1x32x256_S32x256
/-- A slot of the landing buffer, as a matrix. -/
abbrev slotM (k : Fin 3) : Memref sig .tc .vmem S32x256 .f32 :=
  (rM.slice (slotRect k) (fun _ => rfl)).squeeze S32x256 squeezes_S1x32x256_S32x256
/-- A device's rows of the result. -/
abbrev rowsM (d : Dev nD) : Memref sig .tc .vmem S32x256 .f32 := oM.slice (rowsRect d) (fun _ => rfl)

/-- What a lane's transfer reads on this device, and what it writes on the other. -/
def srcM (d : Dev nD) : Lane → Memref sig .tc .vmem S32x256 .f32
  | .inl k => pieceM d k
  | .inr _ => rowsM d
/-- What a transfer writes. -/
def dstM (d : Dev nD) : Lane → Memref sig .tc .vmem S32x256 .f32
  | .inl k => slotM k
  | .inr _ => rowsM d

/-- The semaphore all devices meet on at entry, and each lane's two transfer semaphores. -/
abbrev barS : Sem sig := (SemArray.scalar (sig.barrier 0 rfl) : Sems sig S_).sem
/-- The semaphore a transfer pays when its source has been read. -/
def sendS : Lane → DmaSem sig
  | .inl k => ⟨2 + k.val, by have := k.isLt; show 2 + k.val < 22; omega⟩
  | .inr k => ⟨8 + k.val, by have := k.isLt; show 8 + k.val < 22; omega⟩
/-- The semaphore a transfer pays when its block has arrived. -/
def recvS : Lane → DmaSem sig
  | .inl k => ⟨5 + k.val, by have := k.isLt; show 5 + k.val < 22; omega⟩
  | .inr k => ⟨15 + k.val, by have := k.isLt; show 15 + k.val < 22; omega⟩

/-- All of a block. -/
abbrev zeroRect : Rect S32x256 := Rect.unit (s := S32x256) ![0, 0] S32x256.size inb_S32x256_S32x256_0_0
/-- The rows a device stores. -/
abbrev storeRect (d : Dev nD) : Rect S256x256 := Rect.unit (s := S256x256) (k0_off3 d) S32x256.size (k0_off3_inb d)

/-- The source of every transfer is whole words. -/
theorem srcM_we (d : Dev nD) (i : Lane) : (srcM d i).view.WordExact := View.wordExact_bits rfl
/-- The destination of every transfer is whole words. -/
theorem dstM_we (d : Dev nD) (i : Lane) : (dstM d i).view.WordExact := View.wordExact_bits rfl
/-- No transfer writes a SparseCore scratch buffer. -/
theorem dstM_ns (d : Dev nD) (i : Lane) : (dstM d i).view.ref.isScScratch = false := by rcases i with k | k <;> rfl

/-- The transfer of a lane fired by device `d` and addressed to device `n`. -/
abbrev target (d n : Dev nD) (i : Lane) : DmaTarget nD τ sig .tc .vmem S32x256 .f32 :=
  .remote (Dev.tc n) (dstM d i) (.dma (sendS i)) (dstM_ns d i)
/-- The transfer's semaphores are of the kinds its target asks for. -/
theorem target_typed (d n : Dev nD) (i : Lane) : (target d n i).Typed .vmem (.dma (recvS i)) := ⟨⟨rfl, Or.inl rfl⟩, trivial⟩

/-! ## The body as loops -/

/-- The program type of the kernel body. -/
abbrev P₀ (F : FTy → Type) : Type 1 := Prog (TpuEff nD τ sig (Elt F) Λ₀ .tc) PUnit.{1}

/-- Signal the far end of each lane of a list. -/
def signalAll (d : Dev nD) : List Lane → P₀ F → P₀ F
  | [], k => k
  | i :: l, k => .op (.semSignal (sigDev d i : Thread nD τ) barS (1#32).toInt) fun _ => signalAll d l k

/-- Fire the transfer of each lane of a list. -/
def sendAll (d : Dev nD) : List Lane → P₀ F → P₀ F
  | [], k => k
  | i :: l, k => .op (.enqueueDma (srcM d i) (target d (toDev d i) i) (.dma (recvS i)) (srcM_we d i) (dstM_we d i) (target_typed d _ i)) fun _ => sendAll d l k

/-- Wait for what arrives on each lane of a list; -/
def awaitAll (d : Dev nD) : List Lane → P₀ F → P₀ F
  | [], k => k
  | i :: l, k => .op (.waitDma2 (recvS i) (srcM d i) (dstM d i) (srcM_we d i) (dstM_we d i)) fun _ => awaitAll d l k

/-- for what was sent on each lane of a list to have left. -/
def drainAll (d : Dev nD) : List Lane → P₀ F → P₀ F
  | [], k => k
  | i :: l, k => .op (.waitDma2 (sendS i) (dstM d i) (srcM d i) (dstM_we d i) (srcM_we d i)) fun _ => drainAll d l k

/-- The middle: what this device keeps plus the three pieces that arrive, in the order of the lanes, stored to its rows. -/
def addUp (d : Dev nD) (k : P₀ F) : P₀ F :=
  .op (.load (ownM d) zeroRect.toLoadRect (View.loadsAt_vmem h_S32x256)) fun v =>
  awaitAll d [.inl 0] <|
  .op (.load rM (slotRect 0).toLoadRect (View.loadsAt_vmem h_S1x32x256)) fun w0 =>
  awaitAll d [.inl 1] <|
  .op (.load rM (slotRect 1).toLoadRect (View.loadsAt_vmem h_S1x32x256)) fun w1 =>
  awaitAll d [.inl 2] <|
  .op (.load rM (slotRect 2).toLoadRect (View.loadsAt_vmem h_S1x32x256)) fun w2 =>
  .op (.load oM (storeRect d).toLoadRect (View.loadsAt_vmem h_S32x256)) fun _ =>
  .op (.store oM (storeRect d) (k0_pay2 (k0_pay1 v w0) w1 w2) Finset.univ (View.stores_vmem_bits_univ h_S32x256 rfl) (.inl rfl)) fun _ => k

/-- The whole body on device `d`. -/
def bodyAt (d : Dev nD) : P₀ F :=
  signalAll d lanes <|
  .op (.semWait barS (10#32).toInt) fun _ =>
  sendAll d zLanes <|
  addUp d <|
  sendAll d gLanes <|
  awaitAll d gLanes <|
  drainAll d zLanes <|
  drainAll d gLanes <|
  .ret ⟨⟩

set_option maxRecDepth 65536 in
/-- The printed body is these loops. -/
theorem body_eq : cc0_body (F := F) xM (Memref.isWhole_whole _) oM (Memref.isWhole_whole _) rM (Memref.isWhole_whole _)
      cc0_scratch1 cc0_scratch2 cc0_scratch3 cc0_scratch4
    = .op .deviceId fun d => bodyAt (F := F) d := by
  chain_rfl

end Cert.KernelIdeal.Coll

end
-- ==== Proof.KernelIdeal.Schedule.lean ====
/-
# What the semaphores carry: contents, cells and their single round

Every semaphore of the kernel is used for one round. The meeting semaphore of a device is signalled once along each
lane, one unit each, and the signal along a lane hands over the place at the far end this device's transfer of that
lane writes. Each transfer semaphore is credited once, with the bytes of one 32 × 256 block: at the sender it gives
back what was read, at the receiver it gives the block with what was sent in it.
-/
module

public import proofs.«01_k».proof.Proof.KernelIdeal.Lanes
public import Idealize.ShloMosaic.Lib.Transfers

@[expose] public section

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- The ghost state of the semaphores, -/
abbrev UB : Type := URounds (GSem nD τ sig) Lane
/-- and that of the whole launch, the pipeline's with it, -/
abbrev UU : Type := UR sig nD τ × UB

local notation "𝕄" => MT nD τ sig Unit (Elt F) ℕ UU ℕ

/-- with the pipeline's part -/
abbrev EP : Emb (UR sig nD τ) (MT nD τ sig Unit (Elt F) ℕ UU ℕ) := embL
/-- and the semaphores' part. -/
abbrev ER : Emb UB (MT nD τ sig Unit (Elt F) ℕ UU ℕ) := embR

variable (m : (ℓ : Loc nD τ sig) → Buf (Elt F) ℓ) (ρ : Dev nD → PrngReg)

/-- The launch: any memory, all counters at zero, any generator registers. -/
def s₀ : MemSt nD τ sig (Elt F) := ⟨m, fun _ => 0, ρ⟩

/-! ## Cells -/

/-- A device's semaphores: the meeting one (`none`), and for each lane the sender's (`false`) and the receiver's (`true`). -/
abbrev CellIx : Type := Option (Bool × Lane)

/-- The semaphore an index names. -/
def csem : CellIx → SemLoc sig
  | none => .reg barS
  | some (false, i) => .dma (sendS i)
  | some (true, i) => .dma (recvS i)

/-- Which of them a transfer semaphore is, by its number. -/
def laneOf (q : DmaSem sig) : CellIx :=
  if h : q.val < 2 then none
  else if h : q.val < 5 then some (false, .inl ⟨q.val - 2, by omega⟩)
  else if h : q.val < 8 then some (true, .inl ⟨q.val - 5, by omega⟩)
  else if h : q.val < 15 then some (false, .inr ⟨q.val - 8, by omega⟩)
  else some (true, .inr ⟨q.val - 15, by have : q.val < 22 := q.isLt; omega⟩)

/-- Which of them a semaphore is, if any. -/
def decode : SemLoc sig → Option CellIx
  | .reg s => if s = barS then some none else none
  | .dma q => (laneOf q).map some

/-- The semaphore of an index names that index. -/
theorem decode_csem (x : CellIx) : decode (csem x) = some x := by revert x; decide +kernel
/-- Different indices name different semaphores. -/
theorem csem_injective : Function.Injective csem := fun a b h => Option.some.inj (by rw [← decode_csem a, h, decode_csem])

/-- A device's semaphore; -/
abbrev cell (c : Dev nD) (x : CellIx) : GSem nD τ sig := ((c : Thread nD τ), csem x)
/-- the one for the meeting, -/
abbrev barCell (c : Dev nD) : GSem nD τ sig := cell c none
/-- the one for a block sent, -/
abbrev sendCell (c : Dev nD) (i : Lane) : GSem nD τ sig := cell c (some (false, i))
/-- and the one for a block received. -/
abbrev recvCell (c : Dev nD) (i : Lane) : GSem nD τ sig := cell c (some (true, i))

/-- The credit of one block. -/
abbrev N : ℕ := (slotM 0).view.dmaCredit
/-- The credit of a block is positive. -/
theorem N_pos : 0 < N := View.dmaCredit_pos _ (by decide)
/-- Reading the source of any transfer pays the credit of one block. -/
theorem src_credit (d : Dev nD) (i : Lane) : (srcM d i).view.dmaCredit = N := by rcases i with k | k <;> rfl
/-- Writing the destination of any transfer pays the credit of one block. -/
theorem dst_credit (d : Dev nD) (i : Lane) : (dstM d i).view.dmaCredit = N := by rcases i with k | k <;> rfl

/-! ## Contents -/

/-- The staged input of a device. -/
def xstg (c : Dev nD) : (cc0_stg0_0 : Ref sig .tc).ty.Contents (Elt F) :=
  (win0_0.blk (0 : Fin 1)).view.read (Elt F) ((s₀ m ρ).mem ((c : Thread nD τ).loc main_arg0))

/-- The block a device sends along an exchange lane. -/
def zRead (s : Dev nD) (k : Fin 3) : S32x256.Idx → Elt F .f32 := (pieceM s k).view.read (Elt F) (xstg m ρ s)

/-- The landing buffer once all three blocks have arrived. -/
def scrAt (c : Dev nD) : (cc0_scratch0 : Ref sig .tc).ty.Contents (Elt F) := fun i =>
  zRead m ρ (peer c (.inl (Fin.rev (i 0)))) (i 0) (Shape.pair (i 1) (i 2))

/-- What a device loads of its own block, and of each slot. -/
def ownV (c : Dev nD) := (ownM c).view.readAt (Elt F) zeroRect.toLoadRect (xstg m ρ c)
/-- What a device loads of a slot. -/
def slotV (c : Dev nD) (k : Fin 3) := rM.view.readAt (Elt F) (slotRect k).toLoadRect (scrAt m ρ c)

/-- The finished rows of a device. -/
def acc (c : Dev nD) : S32x256.Idx → Elt F .f32 := k0_pay2 (k0_pay1 (ownV m ρ c) (slotV m ρ c 0)) (slotV m ρ c 1) (slotV m ρ c 2)

/-- The device of the same `z` whose rows hold row `r` of the result. -/
def owner (c : Dev nD) (r : Fin 256) : Dev nD := ⟨4 * (r.val / 32) + c.val % 4, by have := r.isLt; simp only [nD]; omega⟩

/-- The result of a device. -/
def outAt (c : Dev nD) : (cc0_stg1_0 : Ref sig .tc).ty.Contents (Elt F) := fun i =>
  acc m ρ (owner c (i 0)) (Shape.pair ⟨(i 0).val % 32, Nat.mod_lt _ (by decide)⟩ (i 1))

/-! ## Assertions -/

/-- A piece of a staged argument, as held by its device. -/
def piecePts (c : Dev nD) (k : Fin 3) (q : PosShare TreeShare) (f : (cc0_stg0_0 : Ref sig .tc).ty.Contents (Elt F)) : sProp 𝕄 :=
  (c : Thread nD τ).loc cc0_stg0_0 ↦[(pieceM c k).view.set]{q} f
/-- A slot of a landing buffer, as held by its device. -/
def slotPts (c : Dev nD) (k : Fin 3) (f : (cc0_scratch0 : Ref sig .tc).ty.Contents (Elt F)) : sProp 𝕄 :=
  (c : Thread nD τ).loc cc0_scratch0 ↦[(slotM k).view.set]{fullShare} f
/-- The rows of the result that belong to device `d`, as held by device `c`. -/
def rowsPts (c d : Dev nD) (q : PosShare TreeShare) (f : (cc0_stg1_0 : Ref sig .tc).ty.Contents (Elt F)) : sProp 𝕄 :=
  (c : Thread nD τ).loc cc0_stg1_0 ↦[(rowsM d).view.set]{q} f

omit [FloatOps F] in
/-- It can be kept in an invariant. -/
instance piecePts_storable (c : Dev nD) (k q f) : BI.Storable (upEmb : UEmb _ 𝕄) (piecePts (F := F) c k q f) := by unfold piecePts; infer_instance
omit [FloatOps F] in
/-- It can be kept in an invariant. -/
instance slotPts_storable (c : Dev nD) (k f) : BI.Storable (upEmb : UEmb _ 𝕄) (slotPts (F := F) c k f) := by unfold slotPts; infer_instance
omit [FloatOps F] in
/-- They can be kept in an invariant. -/
instance rowsPts_storable (c d : Dev nD) (q f) : BI.Storable (upEmb : UEmb _ 𝕄) (rowsPts (F := F) c d q f) := by unfold rowsPts; infer_instance

/-- What a device's transfer along a lane writes at the far end, before it does. -/
def barPay (c : Dev nD) : Lane → sProp 𝕄
  | .inl k => iprop(∃ f, slotPts (F := F) (peer c (.inl k)) k f)
  | .inr k => iprop(∃ f, rowsPts (F := F) (peer c (.inr k)) c fullShare f)
/-- What its transfer along a lane reads. -/
def sendPay (c : Dev nD) : Lane → sProp 𝕄
  | .inl k => piecePts c k (shareTok fullShare 3 k) (xstg m ρ c)
  | .inr k => rowsPts c c (shareTok fullShare 7 k) (outAt m ρ c)
/-- What it receives along a lane. -/
def recvPay (c : Dev nD) : Lane → sProp 𝕄
  | .inl k => slotPts c k (scrAt m ρ c)
  | .inr k => rowsPts c (peer c (dual (.inr k))) fullShare (outAt m ρ c)

omit [FloatOps F] in
/-- It can be kept in an invariant. -/
instance barPay_storable (c : Dev nD) (i : Lane) : BI.Storable (upEmb : UEmb _ 𝕄) (barPay (F := F) c i) := by
  rcases i with k | k <;> unfold barPay <;> infer_instance
/-- It can be kept in an invariant. -/
instance sendPay_storable (c : Dev nD) (i : Lane) : BI.Storable (upEmb : UEmb _ 𝕄) (sendPay m ρ c i) := by
  rcases i with k | k <;> unfold sendPay <;> infer_instance
/-- It can be kept in an invariant. -/
instance recvPay_storable (c : Dev nD) (i : Lane) : BI.Storable (upEmb : UEmb _ 𝕄) (recvPay m ρ c i) := by
  rcases i with k | k <;> unfold recvPay <;> infer_instance

/-! ## The schedule -/

/-- The name of a transfer semaphore's single duty. -/
abbrev one : Lane := .inl 0

/-- A semaphore's duties: one per lane for the meeting, one for a transfer; -/
def dutiesOf : Option CellIx → Finset Lane
  | some none => Finset.univ
  | some (some _) => {one}
  | none => ∅
/-- how much each pays, -/
def amountOf : Option CellIx → ℕ
  | some none => 1
  | _ => N
/-- and what it hands over. -/
def payOf (c : Dev nD) (j : Lane) : Option CellIx → sProp 𝕄
  | some none => barPay c j
  | some (some (false, i)) => sendPay m ρ c i
  | some (some (true, i)) => recvPay m ρ c i
  | none => iprop(emp)

/-- A duty always pays something. -/
theorem amountOf_pos (x : Option CellIx) : 0 < amountOf x := by
  rcases x with _ | _ | x
  · exact N_pos
  · exact Nat.one_pos
  · exact N_pos

/-- The schedule: each semaphore has one round. -/
def Rd : Rounds.Schedule (GSem nD τ sig) Lane 𝕄 where
  duties g r := if r = 0 ∧ g.1.2 = .tc then dutiesOf (decode g.2) else ∅
  unitless _ := False
  amount g _ _ := amountOf (decode g.2)
  payload g _ j := payOf m ρ g.1.1 j (decode g.2)
  amount_pos g _ _ _ := amountOf_pos _

/-- What is handed over can be kept in an invariant. -/
instance payOf_storable (c : Dev nD) (j : Lane) (x : Option CellIx) : BI.Storable (upEmb : UEmb _ 𝕄) (payOf m ρ c j x) := by
  rcases x with _ | _ | ⟨_ | _, i⟩ <;> unfold payOf <;> infer_instance
/-- What the schedule hands over can be kept in an invariant. -/
instance payload_storable (g : GSem nD τ sig) (r : ℕ) (j : Lane) : BI.Storable (upEmb : UEmb _ 𝕄) ((Rd (F := F) m ρ).payload g r j) :=
  payOf_storable m ρ g.1.1 j (decode g.2)

section Facts
variable (c : Dev nD) (i : Lane)

/-- The duties at a named semaphore are those of its name. -/
theorem duties_cell (x : CellIx) : (Rd (F := F) m ρ).duties (cell c x) 0 = dutiesOf (some x) := by
  dsimp only [Rd]; rw [if_pos ⟨rfl, rfl⟩, decode_csem]
/-- No semaphore has a duty after the first round. -/
theorem duties_later (g : GSem nD τ sig) : ∀ r, 1 ≤ r → (Rd (F := F) m ρ).duties g r = ∅ :=
  fun r hr => by dsimp only [Rd]; rw [if_neg fun h => by omega]
/-- A duty at a named semaphore pays the amount of its name. -/
theorem amount_cell (x : CellIx) (j : Lane) : (Rd (F := F) m ρ).amount (cell c x) 0 j = amountOf (some x) := by
  dsimp only [Rd]; rw [decode_csem]
/-- A duty at a named semaphore hands over what its name says. -/
theorem payload_cell (x : CellIx) (j : Lane) : (Rd (F := F) m ρ).payload (cell c x) 0 j = payOf m ρ c j (some x) := by
  dsimp only [Rd]; rw [decode_csem]

/-- The meeting collects ten units. -/
theorem expect_bar : (Rd (F := F) m ρ).expect (barCell c) 0 = 10 := by
  unfold Schedule.expect Schedule.amountOf
  rw [duties_cell, Finset.sum_congr rfl fun j _ => amount_cell m ρ c none j]
  decide
/-- A transfer semaphore collects one block. -/
theorem expect_xfer (b : Bool) : (Rd (F := F) m ρ).expect (cell c (some (b, i))) 0 = N := by
  unfold Schedule.expect Schedule.amountOf
  rw [duties_cell, Finset.sum_congr rfl fun j _ => amount_cell m ρ c (some (b, i)) j]
  exact Finset.sum_singleton _ _

/-- Everything the meeting semaphore hands over: one place per lane. -/
theorem rest_bar : bigSep ((Rd (F := F) m ρ).duties (barCell c) 0 \ ∅) ((Rd (F := F) m ρ).payload (barCell c) 0) = bigSepL lanes (barPay (F := F) c) := by
  rw [duties_cell, Finset.sdiff_empty, funext fun j => payload_cell m ρ c none j]
  exact bigSep_univ_eq_bigSepL lanes (by decide) (by decide) _
/-- A transfer semaphore hands over its one payload. -/
theorem rest_xfer (b : Bool) : bigSep ((Rd (F := F) m ρ).duties (cell c (some (b, i))) 0 \ ∅) ((Rd (F := F) m ρ).payload (cell c (some (b, i))) 0)
    = payOf m ρ c one (some (some (b, i))) := by
  rw [duties_cell, Finset.sdiff_empty]
  show bigSep {one} _ = _
  rw [bigSep_singleton, payload_cell]

end Facts

/-! ## Levels and debts -/

/-- Every semaphore of a device carries a level, -/
abbrev L (g : GSem nD τ sig) : Finset Unit := if g.1.2 = .tc then {()} else ∅

/-- A device waits at the meeting first, then for the exchange, then for the rows passed round. -/
def levOf : Option CellIx → ℕ
  | some none => 1
  | some (some (true, .inl _)) => 2
  | some (some (true, .inr _)) => 3
  | _ => 0
/-- namely this one, -/
def lv (g : GSem nD τ sig) (_ : Unit) : ℕ := levOf (decode g.2)
/-- The level of a named semaphore is that of its name. -/
theorem lv_cell (c : Dev nD) (x : CellIx) (u : Unit) : lv (cell c x) u = levOf (some x) := by unfold lv; rw [decode_csem]

/-- The debts of a list of lanes, the first lane's outermost. -/
def debt (f : Lane → CellTallies nD τ sig Unit) : List Lane → CellTallies nD τ sig Unit
  | [] => 0
  | i :: l => debt f l + f i

/-- What a device owes for a lane: a unit at the far end's meeting semaphore, a block at its receiving one. -/
def barDebt (c : Dev nD) (i : Lane) : CellTallies nD τ sig Unit := tallyAt (barCell (peer c i)) () 1
/-- and what it owes of a block at the far end's receiving semaphore. -/
def xferDebt (c : Dev nD) (i : Lane) : CellTallies nD τ sig Unit := tallyAt (recvCell (peer c i) i) () N

/-- What a device owes at launch. -/
def O₀ (c : Dev nD) : CellTallies nD τ sig Unit :=
  ((0 + debt (xferDebt c) gLanes) + debt (xferDebt c) zLanes) + debt (barDebt c) lanes

/-- Whatever a list of lanes owes, one of its lanes owes. -/
theorem debt_pos (f : Lane → CellTallies nD τ sig Unit) (l : List Lane) (g : GSem nD τ sig) (u : Unit) (h : 0 < debt f l g u) :
    ∃ i ∈ l, 0 < f i g u := by
  induction l with
  | nil => exact absurd h (Nat.lt_irrefl 0)
  | cons i l ih =>
    have h' : 0 < debt f l g u + f i g u := h
    rcases Nat.eq_zero_or_pos (f i g u) with h0 | h0
    · rw [h0] at h'
      obtain ⟨j, hj, hp⟩ := ih h'
      exact ⟨j, List.mem_cons_of_mem _ hj, hp⟩
    · exact ⟨i, List.mem_cons_self, h0⟩

/-- What a lane's transfer owes, it owes at the far end's receiving semaphore. -/
theorem xferDebt_pos {c : Dev nD} {i : Lane} {g : GSem nD τ sig} {u : Unit} (h : 0 < xferDebt c i g u) : g = recvCell (peer c i) i := by
  unfold xferDebt at h
  rw [tallyAt_apply] at h
  by_contra hne
  rw [if_neg fun e => hne e.1] at h
  exact Nat.lt_irrefl 0 h

/-- There is one level per semaphore of a device. -/
theorem L_tc (c : Dev nD) (sm : SemLoc sig) : L ((c : Thread nD τ), sm) = {()} := if_pos rfl

/-- A wait is allowed once everything still owed lies above it. -/
theorem mayWait_above (c : Dev nD) (sm : SemLoc sig) (n : ℕ) (O : CellTallies nD τ sig Unit) (h : lv ((c : Thread nD τ), sm) () ≤ n)
    (hO : ∀ (g : GSem nD τ sig) (u : Unit), 0 < O g u → ∃ d x, g = cell d x ∧ n < levOf (some x)) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hp => by obtain ⟨d, x, rfl, -⟩ := hO g u hp; rw [L_tc]; exact Finset.mem_singleton_self _)
    (fun p hp => by rw [Finset.mem_singleton.mp hp]; exact h)
    (fun g u hp => by obtain ⟨d, x, rfl, hx⟩ := hO g u hp; rw [lv_cell]; exact hx)

/-- Lanes above a level owe only above it. -/
theorem xfer_above (c : Dev nD) (l : List Lane) (n : ℕ) (hl : ∀ i ∈ l, n < levOf (some (some (true, i)))) :
    ∀ (g : GSem nD τ sig) (u : Unit), 0 < debt (xferDebt c) l g u → ∃ d x, g = cell d x ∧ n < levOf (some x) := fun g u hp => by
  obtain ⟨i, hi, hp⟩ := debt_pos _ _ _ _ hp
  exact ⟨_, _, xferDebt_pos hp, hl i hi⟩

/-- At the meeting a device owes its ten transfers. -/
theorem mayWait_bar (c : Dev nD) :
    (levAts L lv : sProp 𝕄) ⊢ MayWait (c : Thread nD τ) (.reg barS) () ((0 + debt (xferDebt c) gLanes) + debt (xferDebt c) zLanes) :=
  mayWait_above c _ 1 _ (le_of_eq (lv_cell c none ())) fun g u hp => by
    have hp' : 0 < (0 + debt (xferDebt c) gLanes g u) + debt (xferDebt c) zLanes g u := hp
    rcases Nat.eq_zero_or_pos (debt (xferDebt c) zLanes g u) with h0 | h0
    · rw [h0, Nat.zero_add] at hp'
      exact xfer_above c gLanes 1 (by decide) g u hp'
    · exact xfer_above c zLanes 1 (by decide) g u h0

/-- Waiting for the exchange it owes the seven transfers of the pass round. -/
theorem mayWait_z (c : Dev nD) (k : Fin 3) :
    (levAts L lv : sProp 𝕄) ⊢ MayWait (c : Thread nD τ) (.dma (recvS (.inl k))) () (0 + debt (xferDebt c) gLanes) :=
  mayWait_above c _ 2 _ (le_of_eq (lv_cell c (some (true, .inl k)) ())) fun g u hp => by
    have hp' : 0 < 0 + debt (xferDebt c) gLanes g u := hp
    rw [Nat.zero_add] at hp'
    exact xfer_above c gLanes 2 (by decide) g u hp'

end Cert.KernelIdeal.Coll

end
-- ==== Proof.KernelIdeal.Regions.lean ====
/-
# Which elements each block is, and what lands on them

The landing buffer is its three slots; the result is eight groups of 32 rows, one per device of the same `z`. A block
that lands holds what the receiving device is to hold there, and so do the rows a device stores.
-/
module

public import proofs.«01_k».proof.Proof.KernelIdeal.Schedule
public import Idealize.ShloMosaic.Lib.Ring

@[expose] public section

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! ## Offsets -/

/-- Where the rows a device passes round begin. -/
theorem off_rows (d : Dev nD) : k0_off4 d = ![32 * (d.val / 4), 0] := by revert d; decide +kernel
/-- Where the rows a device stores begin. -/
theorem off_store (d : Dev nD) : k0_off3 d = ![32 * (d.val / 4), 0] := by revert d; decide +kernel
/-- Where a device's own addends begin. -/
theorem off_own (d : Dev nD) : k0_off2 d = ![0, 32 * (d.val / 4), 256 * (d.val % 4)] := by revert d; decide +kernel
/-- Where the piece for the far end of an exchange lane begins. -/
theorem off_piece (d : Dev nD) (k : Fin 3) :
    k0_off1 d (BitVec.ofNat 32 (1 + k.val)) = ![0, 32 * (d.val / 4), 256 * ((peer d (.inl k)).val % 4)] := by revert d k; decide +kernel

/-! ## Coordinates of the blocks' elements -/

/-- Dropping a leading axis of length one puts a zero in front of an index. -/
theorem squeeze_idx (x : S32x256.Idx) : Shape.reshapeEquiv (Shape.Squeezes.numel_eq squeezes_S1x32x256_S32x256) x
    = (Fin.cons ⟨0, Nat.one_pos⟩ x : S1x32x256.Idx) := Shape.reshapeEquiv_cons_one _ x

/-- A slot's element in the landing buffer. -/
theorem slot_emb (k : Fin 3) (x : S32x256.Idx) :
    (slotM k).view.emb x = (slotRect k).emb (Fin.cons ⟨0, Nat.one_pos⟩ x : S1x32x256.Idx) := by
  rw [← squeeze_idx]; rfl
/-- A piece's element in the argument. -/
theorem piece_emb (d : Dev nD) (k : Fin 3) (x : S32x256.Idx) :
    (pieceM d k).view.emb x = (pieceRect d k).emb (Fin.cons ⟨0, Nat.one_pos⟩ x : S1x32x256.Idx) := by
  rw [← squeeze_idx]; rfl
/-- An own addend's place in the argument. -/
theorem own_emb (d : Dev nD) (x : S32x256.Idx) :
    (ownM d).view.emb x = (ownRect d).emb (Fin.cons ⟨0, Nat.one_pos⟩ x : S1x32x256.Idx) := by
  rw [← squeeze_idx]; rfl

/-- A slot's element lies at the slot's number and keeps its row and column. -/
theorem slot_at (k : Fin 3) (x : S32x256.Idx) :
    (slotM k).view.emb x 0 = k ∧ Shape.pair (d := ![32, 256]) ((slotM k).view.emb x 1) ((slotM k).view.emb x 2) = x := by
  rw [slot_emb]
  refine ⟨Fin.ext ?_, ?_⟩
  · show k.val + 1 * 0 = k.val
    omega
  · have h1 : (slotRect k).emb (Fin.cons ⟨0, Nat.one_pos⟩ x : S1x32x256.Idx) 1 = x 0 := Fin.ext (by show 0 + 1 * (x 0).val = _; omega)
    have h2 : (slotRect k).emb (Fin.cons ⟨0, Nat.one_pos⟩ x : S1x32x256.Idx) 2 = x 1 := Fin.ext (by show 0 + 1 * (x 1).val = _; omega)
    rw [h1, h2]
    exact Shape.pair_eta x

/-- An element of a device's rows lies that far below their beginning, in its own column. -/
theorem rows_at (d : Dev nD) (x : S32x256.Idx) :
    ((rowsM d).view.emb x 0).val = 32 * (d.val / 4) + (x 0).val ∧ ((rowsM d).view.emb x 1).val = (x 1).val := by
  have h (a : Fin 2) : ((rowsM d).view.emb x a).val = k0_off4 d a + 1 * (x a).val := rfl
  rw [h, h, off_rows]
  exact ⟨by show 32 * (d.val / 4) + 1 * (x 0).val = _; omega, by show 0 + 1 * (x 1).val = _; omega⟩

/-- What is stored and what is passed round are the same rows. -/
theorem store_emb (d : Dev nD) (x : S32x256.Idx) : (oM.access (storeRect d)).emb x = (rowsM d).view.emb x := by
  have h (a : Fin 2) : ((oM.access (storeRect d)).emb x a).val = k0_off3 d a + 1 * (x a).val := rfl
  have h' (a : Fin 2) : ((rowsM d).view.emb x a).val = k0_off4 d a + 1 * (x a).val := rfl
  exact funext fun a => Fin.ext (by rw [h, h', off_store, off_rows])

/-! ## Membership -/

/-- An element of the landing buffer is in the slot its first coordinate names. -/
theorem mem_slot (k : Fin 3) (i : S3x32x256.Idx) : Iff (i ∈ (slotM k).view.set) (i 0 = k) := by
  rw [show (slotM k).view.set = (slotRect k).set from
    (View.map_univ_equiv_trans _ _).trans (View.set_slice_whole cc0_scratch0 (slotRect k)), Rect.mem_set_unit]
  constructor
  · intro h
    have h0 : k.val ≤ (i 0).val ∧ (i 0).val < k.val + 1 := h 0
    exact Fin.ext (by omega)
  · rintro rfl a
    fin_cases a
    · exact ⟨Nat.le_refl _, Nat.lt_succ_self _⟩
    · exact ⟨Nat.zero_le _, by have h : (i 1).val < 32 := (i 1).isLt; show (i 1).val < 0 + 32; omega⟩
    · exact ⟨Nat.zero_le _, by have h : (i 2).val < 256 := (i 2).isLt; show (i 2).val < 0 + 256; omega⟩

/-- An element of the result is in a device's rows when its row number says so. -/
theorem mem_rows (d : Dev nD) (i : S256x256.Idx) : Iff (i ∈ (rowsM d).view.set) ((i 0).val / 32 = d.val / 4) := by
  rw [show (rowsM d).view.set = (rowsRect d).set from View.set_slice_whole cc0_stg1_0 (rowsRect d), Rect.mem_set_unit, off_rows]
  constructor
  · intro h
    have h0 : 32 * (d.val / 4) ≤ (i 0).val ∧ (i 0).val < 32 * (d.val / 4) + 32 := h 0
    omega
  · intro h a
    fin_cases a
    · have h0 : 32 * (d.val / 4) ≤ (i 0).val ∧ (i 0).val < 32 * (d.val / 4) + 32 := by omega
      exact h0
    · exact ⟨Nat.zero_le _, by have h : (i 1).val < 256 := (i 1).isLt; show (i 1).val < 0 + 256; omega⟩

/-! ## The buffers as their blocks -/

/-- The landing buffer is its three slots. -/
theorem scr_slots (c : Dev nD) (f : (cc0_scratch0 : Ref sig .tc).ty.Contents (Elt F)) :
    (((c : Thread nD τ).loc cc0_scratch0) ↦{fullShare} f : sProp 𝕄) = bigSep Finset.univ fun k : Fin 3 => slotPts c k f := by
  unfold slotPts
  refine Ring.pointsTo_blocks (ℓ := (c : Thread nD τ).loc cc0_scratch0) (I := fun k : Fin 3 => (slotM k).view.set) ?_ ?_ f
  · intro k k' hne
    refine Finset.disjoint_left.mpr fun i h h' => hne ?_
    rw [← (mem_slot k i).mp h, ← (mem_slot k' i).mp h']
  · refine Finset.eq_univ_of_forall fun i => Finset.mem_biUnion.mpr ⟨(i : S3x32x256.Idx) 0, Finset.mem_univ _, (mem_slot _ i).mpr rfl⟩

/-- The devices of this device's `z`: itself and the far ends of the seven lanes of the pass round. -/
def mate (c : Dev nD) : Unit ⊕ Fin 7 → Dev nD
  | .inl _ => c
  | .inr k => peer c (.inr k)

/-- Different mates have different rows. -/
theorem mate_ne (c : Dev nD) (a b : Unit ⊕ Fin 7) (h : (mate c a).val / 4 = (mate c b).val / 4) : a = b := by
  revert c a b; decide +kernel
/-- Every block of rows belongs to a mate. -/
theorem mate_onto (c : Dev nD) (g : Fin 8) : ∃ a, (mate c a).val / 4 = g.val := by revert c g; decide +kernel

/-- The result is this device's rows and those of its seven mates. -/
theorem out_rows (c : Dev nD) (f : (cc0_stg1_0 : Ref sig .tc).ty.Contents (Elt F)) :
    (((c : Thread nD τ).loc cc0_stg1_0) ↦{fullShare} f : sProp 𝕄)
      = iprop(rowsPts c c fullShare f ∗ bigSep Finset.univ fun k : Fin 7 => rowsPts c (peer c (.inr k)) fullShare f) := by
  have h : (((c : Thread nD τ).loc cc0_stg1_0) ↦{fullShare} f : sProp 𝕄) = bigSep Finset.univ fun a => rowsPts c (mate c a) fullShare f := by
    unfold rowsPts
    refine Ring.pointsTo_blocks (ℓ := (c : Thread nD τ).loc cc0_stg1_0) (I := fun a => (rowsM (mate c a)).view.set) ?_ ?_ f
    · intro a b hne
      refine Finset.disjoint_left.mpr fun i h h' => hne (mate_ne c a b ?_)
      rw [← (mem_rows _ i).mp h, ← (mem_rows _ i).mp h']
    · refine Finset.eq_univ_of_forall fun i => ?_
      have hi : ((i : S256x256.Idx) 0).val < 256 := (i 0).isLt
      obtain ⟨a, ha⟩ := mate_onto c ⟨((i : S256x256.Idx) 0).val / 32, by omega⟩
      exact Finset.mem_biUnion.mpr ⟨a, Finset.mem_univ _, (mem_rows _ i).mpr ha.symm⟩
  rw [h, bigSep_univ_sum]
  congr 1
  exact bigSep_singleton

/-! ## What lands -/

/-- The result of two devices of one `z` is the same. -/
theorem outAt_congr (c d : Dev nD) (h : c.val % 4 = d.val % 4) : outAt m ρ c = outAt m ρ d := by
  funext i
  unfold outAt
  rw [show owner c (i 0) = owner d (i 0) from Fin.ext (by show 4 * _ + c.val % 4 = 4 * _ + d.val % 4; rw [h])]

/-- Passing round keeps the `z`. -/
theorem peer_mod (c : Dev nD) (k : Fin 7) : (peer c (.inr k)).val % 4 = c.val % 4 := by
  show (4 * ((c.val / 4 + k.val + 1) % 8) + c.val % 4) % 4 = c.val % 4
  omega

/-- On a device's own rows, the result is what that device computed. -/
theorem outAt_rows (c : Dev nD) (x : S32x256.Idx) : outAt m ρ c ((rowsM c).view.emb x) = acc m ρ c x := by
  obtain ⟨h0, h1⟩ := rows_at c x
  have hx : (x 0).val < 32 := (x 0).isLt
  unfold outAt
  rw [show owner c ((rowsM c).view.emb x 0) = c from Fin.ext (by
      show 4 * (((rowsM c).view.emb x 0).val / 32) + c.val % 4 = c.val
      rw [h0]; omega)]
  refine congrArg (acc m ρ c) ((congrArg₂ (Shape.pair (d := ![32, 256])) (Fin.ext ?_) (Fin.ext h1)).trans (Shape.pair_eta x))
  show ((rowsM c).view.emb x 0).val % 32 = (x 0).val
  rw [h0]; omega

/-- A piece sent along an exchange lane leaves its slot at the far end as it is to be. -/
theorem land_slot (c : Dev nD) (k : Fin 3) (f : (cc0_scratch0 : Ref sig .tc).ty.Contents (Elt F)) :
    slotPts (F := F) (peer c (.inl k)) k ((slotM k).view.write (Elt F) f ((pieceM c k).view.read (Elt F) (xstg m ρ c)) Finset.univ)
      = slotPts (peer c (.inl k)) k (scrAt m ρ (peer c (.inl k))) := by
  unfold slotPts
  refine pointsTo_congr fun i hi => ?_
  obtain ⟨x, -, rfl⟩ := Finset.mem_map.mp hi
  rw [View.write_emb_of_mem _ _ (Finset.mem_univ x)]
  obtain ⟨h0, h1⟩ := slot_at k x
  unfold scrAt
  rw [h0, show peer (peer c (.inl k)) (.inl k.rev) = c from peer_dual c (.inl k)]
  exact (congrArg (zRead m ρ c k) h1).symm

/-- A device's rows passed on along a lane leave the far end's copy as it is to be. -/
theorem land_rows (c : Dev nD) (k : Fin 7) (f : (cc0_stg1_0 : Ref sig .tc).ty.Contents (Elt F)) :
    rowsPts (F := F) (peer c (.inr k)) c fullShare ((rowsM c).view.write (Elt F) f ((rowsM c).view.read (Elt F) (outAt m ρ c)) Finset.univ)
      = rowsPts (peer c (.inr k)) c fullShare (outAt m ρ (peer c (.inr k))) := by
  rw [outAt_congr m ρ (peer c (.inr k)) c (peer_mod c k)]
  unfold rowsPts
  refine pointsTo_congr fun i hi => ?_
  obtain ⟨x, -, rfl⟩ := Finset.mem_map.mp hi
  rw [View.write_emb_of_mem _ _ (Finset.mem_univ x)]
  rfl

/-- The rows a device stores. -/
theorem store_rows (c : Dev nD) (f : (cc0_stg1_0 : Ref sig .tc).ty.Contents (Elt F)) :
    rowsPts (F := F) c c fullShare ((oM.access (storeRect c)).write (Elt F) f (acc m ρ c) Finset.univ) = rowsPts c c fullShare (outAt m ρ c) := by
  unfold rowsPts
  refine pointsTo_congr fun i hi => ?_
  obtain ⟨x, -, rfl⟩ := Finset.mem_map.mp hi
  rw [outAt_rows, ← store_emb, View.write_emb_of_mem _ _ (Finset.mem_univ x)]
  rfl

/-- A device's store into its result touches only its own rows. -/
theorem store_set (c : Dev nD) : (oM.access (storeRect c)).setOn Finset.univ ⊆ (rowsM c).view.set := by
  intro i hi
  obtain ⟨x, -, rfl⟩ := Finset.mem_map.mp hi
  rw [store_emb]
  exact Finset.mem_map_of_mem _ (Finset.mem_univ x)

/-- A device's load from its result touches only its own rows. -/
theorem load_set (c : Dev nD) : oM.view.setOn (storeRect c).toLoadRect.set ⊆ (rowsM c).view.set := by
  intro i hi
  rw [mem_rows]
  obtain ⟨j, hj, rfl⟩ := Finset.mem_map.mp hi
  have h0 := (Rect.mem_set_unit.mp hj) 0
  rw [off_store] at h0
  have h0' : 32 * (c.val / 4) ≤ (j 0).val ∧ (j 0).val < 32 * (c.val / 4) + 32 := h0
  show (j 0).val / 32 = _
  omega

/-- Loading a slot touches only that slot. -/
theorem slot_load_set (k : Fin 3) : rM.view.setOn (slotRect k).toLoadRect.set ⊆ (slotM k).view.set := by
  intro i hi
  rw [mem_slot]
  obtain ⟨j, hj, rfl⟩ := Finset.mem_map.mp hi
  have h0 : k.val ≤ (j 0).val ∧ (j 0).val < k.val + 1 := (Rect.mem_set_unit.mp hj) 0
  exact Fin.ext (by show (j 0).val = _; omega)

end Cert.KernelIdeal.Coll

end
-- ==== Proof.KernelIdeal.Loops.lean ====
/-
# One rule for each loop of the body

Each rule takes a device through a loop over any list of lanes: what it spends per lane before the loop, what it holds
per lane after it. They are proved by induction over the list from one rule per step.
-/
module

public import proofs.«01_k».proof.Proof.KernelIdeal.Regions

@[expose] public section

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-- No variants: the kernel has no unbounded loop. -/
abbrev 𝒱₀ : Variants := Variants.none

/-! ## What every device knows -/

/-- Every cell's invariant, under the name the launch gave it, and that every cell's round 0 is open. -/
def records (K : Dev nD × CellIx → ℕ) : sProp 𝕄 :=
  iprop((bigSep Finset.univ fun p : Dev nD × CellIx => cellInv ER (Rd m ρ) (K p) (cell p.1 p.2))
    ∗ bigSep Finset.univ fun p : Dev nD × CellIx => reached ER (cell p.1 p.2) 0)

/-- The records can be used again and again. -/
instance records_persistent (K : Dev nD × CellIx → ℕ) : BI.Persistent (records m ρ K) := by unfold records; infer_instance

/-- The two facts about one cell. -/
theorem records_at (K : Dev nD × CellIx → ℕ) (c : Dev nD) (x : CellIx) :
    records m ρ K ⊢ iprop(cellInv ER (Rd m ρ) (K (c, x)) (cell c x) ∗ reached ER (cell c x) 0) :=
  BIClass.sep_mono (bigSep_elim (Φ := fun p : Dev nD × CellIx => cellInv ER (Rd m ρ) (K p) (cell p.1 p.2)) (Finset.mem_univ (c, x)))
    (bigSep_elim (Φ := fun p : Dev nD × CellIx => (reached ER (cell p.1 p.2) 0 : sProp 𝕄)) (Finset.mem_univ (c, x)))

/-- A device owes `O`, whatever it has waited for so far. -/
def owing (c : Dev nD) (O : CellTallies nD τ sig Unit) : sProp 𝕄 := iprop(∃ W, owes (c : Thread nD τ) O W)

/-- A device at the start of a cell's only round. -/
abbrev fresh (c : Dev nD) (x : CellIx) : sProp 𝕄 := atPos ER (cell c x) 0 ∅ 0

section Rules
variable (K : Dev nD × CellIx → ℕ) (c : Dev nD)

/-! ## Signals -/

/-- Signalling the far end of each lane of a list pays a unit per lane and hands over a place per lane. -/
theorem wp_signals (l : List Lane) (O : CellTallies nD τ sig Unit) (k : P₀ F) (Q : PUnit → sProp 𝕄) :
    iprop(records m ρ K ∗ owing c (O + debt (barDebt c) l)
        ∗ bigSepL l (fun i => dutyTok ER (barCell (peer c i)) 0 (dual i))
        ∗ bigSepL l (fun i => barPay (F := F) (peer c i) (dual i)))
      ⊢ iprop((owing c O -∗ wp frame (wpE (defs₀ (F := F)) 𝒱₀ (c : Thread nD τ) none) Set.univ k Q)
          -∗ wp frame (wpE (defs₀ (F := F)) 𝒱₀ (c : Thread nD τ) none) Set.univ (signalAll c l k) Q) := by
  induction l with
  | nil =>
    iintro ⟨-, Ho, -, -⟩ Hk
    iapply Hk
    rw [show O + debt (barDebt c) [] = O from add_zero O]
    iexact Ho
  | cons i l ih =>
    rw [bigSepL_cons', bigSepL_cons', show O + debt (barDebt c) (i :: l) = (O + debt (barDebt c) l) + barDebt c i from (add_assoc _ _ _).symm]
    show _ ⊢ iprop(_ -∗ wp frame (wpE (defs₀ (F := F)) 𝒱₀ (c : Thread nD τ) none) Set.univ
      (.op (.semSignal (sigDev c i : Thread nD τ) barS (1#32).toInt) fun _ => signalAll c l k) Q)
    rw [sigDev_eq]
    iintro ⟨#HR, Ho, ⟨Ht, Hts⟩, Hp, Hps⟩ Hk
    unfold owing
    icases Ho with ⟨%W, Ho⟩
    ihave Hc := (records_at m ρ K (peer c i) none) $$ HR
    icases Hc with ⟨#HI, #Hr⟩
    iapply (Rounds.wp_signal 𝒱₀ ER (Rd m ρ) (c : Thread nD τ) none (dst := (peer c i : Thread nD τ)) (κ := K (peer c i, none)) (r := 0)
        (d := dual i) (by rw [show ((peer c i : Thread nD τ), SemLoc.reg barS) = barCell (peer c i) from rfl, duties_cell]; exact Finset.mem_univ _)
        ((amount_cell m ρ (peer c i) none (dual i)).trans (by decide)) () (O + debt (barDebt c) l) rfl)
      $$ [Ho Ht Hp]
    · isplitr; · iexact HI
      isplitl [Ho]; · iexact Ho
      isplitl [Ht]; · iexact Ht
      isplitl [Hp]
      · rw [show ((peer c i : Thread nD τ), SemLoc.reg barS) = barCell (peer c i) from rfl, payload_cell]
        iapply (Entails.of_eq (show barPay (F := F) (peer c i) (dual i) = payOf m ρ (peer c i) (dual i) (some none) from rfl)); iexact Hp
      iexact Hr
    iintro Ho
    iapply ih $$ [Ho Hts Hps]
    · isplitr; · iexact HR
      isplitl [Ho]; · unfold owing; iexists W; iexact Ho
      isplitl [Hts] <;> iassumption
    unfold owing
    iexact Hk

/-! ## Transfers -/

/-- One transfer, to a device `n` that is the far end of its lane. -/
theorem wp_send_lane (n : Dev nD) (i : Lane) (hn : n = peer c i) (O : CellTallies nD τ sig Unit) (W : Waits sig Unit)
    (k : PUnit → P₀ F) (Q : PUnit → sProp 𝕄) :
    iprop(cellInv ER (Rd m ρ) (K (c, some (false, i))) (sendCell c i) ∗ cellInv ER (Rd m ρ) (K (peer c i, some (true, i))) (recvCell (peer c i) i)
        ∗ sendPay m ρ c i ∗ barPay (F := F) c i ∗ owes (c : Thread nD τ) (O + xferDebt c i) W
        ∗ dutyTok ER (sendCell c i) 0 one ∗ reached ER (sendCell c i) 0
        ∗ dutyTok ER (recvCell (peer c i) i) 0 one ∗ reached ER (recvCell (peer c i) i) 0)
      ⊢ iprop(((cred (tallyAt (sendCell c i) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM c i) (target c n i) (.dma (recvS i)) (srcM_we c i) (dstM_we c i) (target_typed c n i)) k) Q) := by
  subst hn
  have hd₁ : one ∈ (Rd (F := F) m ρ).duties (sendCell c i) 0 := by rw [duties_cell]; exact Finset.mem_singleton_self _
  have hd₂ : one ∈ (Rd (F := F) m ρ).duties (recvCell (peer c i) i) 0 := by rw [duties_cell]; exact Finset.mem_singleton_self _
  have hp₁ : (Rd m ρ).payload (sendCell c i) 0 one = sendPay m ρ c i := payload_cell m ρ c (some (false, i)) one
  have hp₂ : (Rd m ρ).payload (recvCell (peer c i) i) 0 one = recvPay m ρ (peer c i) i := payload_cell m ρ (peer c i) (some (true, i)) one
  have ha₁ : (Rd (F := F) m ρ).amount (sendCell c i) 0 one = N := amount_cell m ρ c (some (false, i)) one
  have ha₂ : (Rd (F := F) m ρ).amount (recvCell (peer c i) i) 0 one = N := amount_cell m ρ (peer c i) (some (true, i)) one
  rcases i with i | i
  · iintro ⟨HI, HI', Hs, Hb, Hrest⟩
    unfold barPay
    icases Hb with ⟨%f, Hb⟩
    iapply (Rounds.wp_send_pointsTo 𝒱₀ ER (Rd m ρ) (c : Thread nD τ) none (c' := (peer c (.inl i) : Thread nD τ))
      (src := srcM c (.inl i)) (dst := dstM c (.inl i)) (sS := csem (some (false, .inl i))) (sem := csem (some (true, .inl i)))
      (hsc := dstM_ns c (.inl i)) (hsrc := srcM_we c (.inl i)) (hdst := dstM_we c (.inl i)) (hsem := target_typed c (peer c (.inl i)) (.inl i))
      (q := shareTok fullShare 3 i) (fs := xstg m ρ c) (fd := f)
      (κ₁ := K (c, some (false, .inl i))) (κ₂ := K (peer c (.inl i), some (true, .inl i))) (r₁ := 0) (r₂ := 0) (d₁ := one) (d₂ := one)
      hd₁ hd₂ () () N rfl ha₁ ha₂ O rfl (by rw [hp₁]; exact BI.Entails.refl _)
      (by rw [hp₂]; exact Entails.of_eq (land_slot m ρ c i f)))
    isplitl [HI]; · iexact HI
    isplitl [HI']; · iexact HI'
    isplitl [Hs]; · iapply (Entails.of_eq (show sendPay m ρ c (.inl i) = ((srcM c (.inl i)).view.loc (c : Thread nD τ)
        ↦[(srcM c (.inl i)).view.set]{shareTok fullShare 3 i} xstg m ρ c) from rfl)); iexact Hs
    isplitl [Hb]; · iapply (Entails.of_eq (show slotPts (F := F) (peer c (.inl i)) i f = ((dstM c (.inl i)).view.loc (peer c (.inl i) : Thread nD τ)
        ↦[(dstM c (.inl i)).view.set]{fullShare} f) from rfl)); iexact Hb
    iexact Hrest
  · iintro ⟨HI, HI', Hs, Hb, Hrest⟩
    unfold barPay
    icases Hb with ⟨%f, Hb⟩
    iapply (Rounds.wp_send_pointsTo 𝒱₀ ER (Rd m ρ) (c : Thread nD τ) none (c' := (peer c (.inr i) : Thread nD τ))
      (src := srcM c (.inr i)) (dst := dstM c (.inr i)) (sS := csem (some (false, .inr i))) (sem := csem (some (true, .inr i)))
      (hsc := dstM_ns c (.inr i)) (hsrc := srcM_we c (.inr i)) (hdst := dstM_we c (.inr i)) (hsem := target_typed c (peer c (.inr i)) (.inr i))
      (q := shareTok fullShare 7 i) (fs := outAt m ρ c) (fd := f)
      (κ₁ := K (c, some (false, .inr i))) (κ₂ := K (peer c (.inr i), some (true, .inr i))) (r₁ := 0) (r₂ := 0) (d₁ := one) (d₂ := one)
      hd₁ hd₂ () () N rfl ha₁ ha₂ O rfl (by rw [hp₁]; exact BI.Entails.refl _)
      (by
        rw [hp₂]
        show _ ⊢ rowsPts (peer c (.inr i)) (peer (peer c (.inr i)) (dual (.inr i))) fullShare (outAt m ρ (peer c (.inr i)))
        rw [peer_dual]
        exact Entails.of_eq (land_rows m ρ c i f)))
    isplitl [HI]; · iexact HI
    isplitl [HI']; · iexact HI'
    isplitl [Hs]; · iapply (Entails.of_eq (show sendPay m ρ c (.inr i) = ((srcM c (.inr i)).view.loc (c : Thread nD τ)
        ↦[(srcM c (.inr i)).view.set]{shareTok fullShare 7 i} outAt m ρ c) from rfl)); iexact Hs
    isplitl [Hb]; · iapply (Entails.of_eq (show rowsPts (F := F) (peer c (.inr i)) c fullShare f = ((dstM c (.inr i)).view.loc (peer c (.inr i) : Thread nD τ)
        ↦[(dstM c (.inr i)).view.set]{fullShare} f) from rfl)); iexact Hb
    iexact Hrest

/-- Firing the transfers of a list of lanes pays a block per lane; a credit at each lane's sending semaphore is the receipt. -/
theorem wp_sends (l : List Lane) (O : CellTallies nD τ sig Unit) (k : P₀ F) (Q : PUnit → sProp 𝕄) :
    iprop(records m ρ K ∗ owing c (O + debt (xferDebt c) l)
        ∗ bigSepL l (fun i => dutyTok ER (sendCell c i) 0 one)
        ∗ bigSepL l (fun i => dutyTok ER (recvCell (peer c i) i) 0 one)
        ∗ bigSepL l (sendPay m ρ c) ∗ bigSepL l (barPay (F := F) c))
      ⊢ iprop(((owing c O ∗ bigSepL l (fun i => cred (tallyAt (sendCell c i) () N)))
            -∗ wp frame (wpE (defs₀ (F := F)) 𝒱₀ (c : Thread nD τ) none) Set.univ k Q)
          -∗ wp frame (wpE (defs₀ (F := F)) 𝒱₀ (c : Thread nD τ) none) Set.univ (sendAll c l k) Q) := by
  induction l generalizing Q with
  | nil =>
    iintro ⟨-, Ho, -, -, -, -⟩ Hk
    iapply Hk
    rw [show O + debt (xferDebt c) [] = O from add_zero O, bigSepL_nil]
    isplitl [Ho]; · iexact Ho
    iempintro
  | cons i l ih =>
    rw [bigSepL_cons', bigSepL_cons', bigSepL_cons', bigSepL_cons', bigSepL_cons',
      show O + debt (xferDebt c) (i :: l) = (O + debt (xferDebt c) l) + xferDebt c i from (add_assoc _ _ _).symm]
    show _ ⊢ iprop(_ -∗ wp frame (wpE (defs₀ (F := F)) 𝒱₀ (c : Thread nD τ) none) Set.univ
      (.op (.enqueueDma (srcM c i) (target c (toDev c i) i) (.dma (recvS i)) (srcM_we c i) (dstM_we c i) (target_typed c _ i)) fun _ => sendAll c l k) Q)
    iintro ⟨#HR, Ho, ⟨Ht, Hts⟩, ⟨Hu, Hus⟩, ⟨Hs, Hss⟩, Hp, Hps⟩ Hk
    unfold owing
    icases Ho with ⟨%W, Ho⟩
    ihave Hc := (records_at m ρ K c (some (false, i))) $$ HR
    icases Hc with ⟨#HI, #Hr⟩
    ihave Hc := (records_at m ρ K (peer c i) (some (true, i))) $$ HR
    icases Hc with ⟨#HI', #Hr'⟩
    iapply (wp_send_lane m ρ K c (toDev c i) i (toDev_eq c i) (O + debt (xferDebt c) l) W) $$ [Ho Ht Hu Hs Hp]
    · isplitr; · iexact HI
      isplitr; · iexact HI'
      isplitl [Hs]; · iexact Hs
      isplitl [Hp]; · iexact Hp
      isplitl [Ho]; · iexact Ho
      isplitl [Ht]; · iexact Ht
      isplitr; · iexact Hr
      isplitl [Hu]; · iexact Hu
      iexact Hr'
    iintro ⟨Hcr, Ho⟩
    iapply ih $$ [Ho Hts Hus Hss Hps]
    · isplitr; · iexact HR
      isplitl [Ho]; · unfold owing; iexists W; iexact Ho
      isplitl [Hts]; · iexact Hts
      isplitl [Hus]; · iexact Hus
      isplitl [Hss] <;> iassumption
    iintro ⟨Ho, Hcs⟩
    iapply Hk
    unfold owing
    isplitl [Ho]; · iexact Ho
    isplitl [Hcr] <;> iassumption

/-! ## Waits -/

/-- One wait for a whole block on one of this device's transfer semaphores, which is then done with. -/
theorem wp_wait_lane (b : Bool) (i : Lane) (O : CellTallies nD τ sig Unit)
    (hmw : (levAts L lv : sProp 𝕄) ⊢ MayWait (c : Thread nD τ) (csem (some (b, i))) () O)
    {w : TpuEff nD τ sig (Elt F) Λ₀ .tc PUnit.{1}}
    (hw : ∀ G : PUnit → sProp 𝕄, wpE (defs₀ (F := F)) 𝒱₀ (c : Thread nD τ) none Set.univ w G
      = waitSpec (c : Thread nD τ) Set.univ (csem (some (b, i))) N G)
    (k : PUnit → P₀ F) (Q : PUnit → sProp 𝕄) :
    iprop(records m ρ K ∗ levAts L lv ∗ owing c O ∗ cred (tallyAt (cell c (some (b, i))) () N) ∗ fresh c (some (b, i)))
      ⊢ iprop(((owing c O ∗ payOf m ρ c one (some (some (b, i))) ∗ semVal (cell c (some (b, i))) 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold owing fresh
  iintro ⟨#HR, #Hlev, ⟨%W, Ho⟩, Hc, Ha⟩ Hk
  ihave Hx := (records_at m ρ K c (some (b, i))) $$ HR
  icases Hx with ⟨#HI, -⟩
  iapply (Rounds.wp_wait_rest_token 𝒱₀ ER (Rd m ρ) (c : Thread nD τ) none (κ := K (c, some (b, i))) (sm := csem (some (b, i)))
      hw (Set.mem_univ _) () (O := O) (W := W) (R := 0) (m := 0) (T := ∅)
      ((Nat.zero_add N).trans (expect_xfer m ρ c i b).symm)) $$ [Ho Hc Ha]
  · isplitr; · iexact HI
    isplitl [Hc]; · iexact Hc
    isplitl [Ho]; · iexact Ho
    isplitr; · iapply hmw; iexact Hlev
    iexact Ha
  iintro ⟨Ho, Ha, -, Hp⟩
  ihave Hp := (Entails.of_eq (rest_xfer m ρ c i b)) $$ Hp
  imod (Rounds.cell_close ER (Rd m ρ) (Set.mem_univ (K (c, some (b, i)))) (fun h => h) (R := 0 + 1) (duties_later m ρ (cell c (some (b, i))))) $$ [Ha] with Hz
  · isplitr; · iexact HI
    iexact Ha
  iapply Hk
  isplitl [Ho]; · iexists _; iexact Ho
  isplitl [Hp] <;> iassumption

/-- Waiting for what arrives on a list of lanes. -/
theorem wp_awaits (l : List Lane) (O : CellTallies nD τ sig Unit)
    (hmw : ∀ i ∈ l, (levAts L lv : sProp 𝕄) ⊢ MayWait (c : Thread nD τ) (csem (some (true, i))) () O) (k : P₀ F) (Q : PUnit → sProp 𝕄) :
    iprop(records m ρ K ∗ levAts L lv ∗ owing c O
        ∗ bigSepL l (fun i => cred (tallyAt (recvCell c i) () N)) ∗ bigSepL l (fun i => fresh c (some (true, i))))
      ⊢ iprop(((owing c O ∗ bigSepL l (recvPay m ρ c) ∗ bigSepL l (fun i => semVal (recvCell c i) 0))
            -∗ wp frame (wpE (defs₀ (F := F)) 𝒱₀ (c : Thread nD τ) none) Set.univ k Q)
          -∗ wp frame (wpE (defs₀ (F := F)) 𝒱₀ (c : Thread nD τ) none) Set.univ (awaitAll c l k) Q) := by
  induction l generalizing Q with
  | nil =>
    iintro ⟨-, -, Ho, -, -⟩ Hk
    iapply Hk
    rw [bigSepL_nil, bigSepL_nil]
    isplitl [Ho]; · iexact Ho
    isplitl <;> iempintro
  | cons i l ih =>
    rw [bigSepL_cons', bigSepL_cons', bigSepL_cons', bigSepL_cons']
    show _ ⊢ iprop(_ -∗ wp frame (wpE (defs₀ (F := F)) 𝒱₀ (c : Thread nD τ) none) Set.univ
      (.op (.waitDma2 (recvS i) (srcM c i) (dstM c i) (srcM_we c i) (dstM_we c i)) fun _ => awaitAll c l k) Q)
    iintro ⟨#HR, #Hlev, Ho, ⟨Hc, Hcs⟩, Ha, Has⟩ Hk
    iapply (wp_wait_lane m ρ K c true i O (hmw i List.mem_cons_self)
      (fun G => (wpE_waitDma2_eq 𝒱₀ (c : Thread nD τ) none Set.univ G).trans (by rw [dst_credit]; rfl))) $$ [Ho Hc Ha]
    · isplitr; · iexact HR
      isplitr; · iexact Hlev
      isplitl [Ho]; · iexact Ho
      isplitl [Hc] <;> iassumption
    iintro ⟨Ho, Hp, Hz⟩
    iapply (ih fun j hj => hmw j (List.mem_cons_of_mem _ hj)) $$ [Ho Hcs Has]
    · isplitr; · iexact HR
      isplitr; · iexact Hlev
      isplitl [Ho]; · iexact Ho
      isplitl [Hcs] <;> iassumption
    iintro ⟨Ho, Hps, Hzs⟩
    iapply Hk
    isplitl [Ho]; · iexact Ho
    isplitl [Hp Hps]
    · isplitl [Hp]; · iapply (Entails.of_eq (show payOf m ρ c one (some (some (true, i))) = recvPay m ρ c i from rfl)); iexact Hp
      iexact Hps
    isplitl [Hz] <;> iassumption

/-- Waiting for what was sent on a list of lanes to have left, with nothing owed. -/
theorem wp_drains (l : List Lane) (k : P₀ F) (Q : PUnit → sProp 𝕄) :
    iprop(records m ρ K ∗ levAts L lv ∗ owing c 0
        ∗ bigSepL l (fun i => cred (tallyAt (sendCell c i) () N)) ∗ bigSepL l (fun i => fresh c (some (false, i))))
      ⊢ iprop(((owing c 0 ∗ bigSepL l (sendPay m ρ c) ∗ bigSepL l (fun i => semVal (sendCell c i) 0))
            -∗ wp frame (wpE (defs₀ (F := F)) 𝒱₀ (c : Thread nD τ) none) Set.univ k Q)
          -∗ wp frame (wpE (defs₀ (F := F)) 𝒱₀ (c : Thread nD τ) none) Set.univ (drainAll c l k) Q) := by
  induction l generalizing Q with
  | nil =>
    iintro ⟨-, -, Ho, -, -⟩ Hk
    iapply Hk
    rw [bigSepL_nil, bigSepL_nil]
    isplitl [Ho]; · iexact Ho
    isplitl <;> iempintro
  | cons i l ih =>
    rw [bigSepL_cons', bigSepL_cons', bigSepL_cons', bigSepL_cons']
    show _ ⊢ iprop(_ -∗ wp frame (wpE (defs₀ (F := F)) 𝒱₀ (c : Thread nD τ) none) Set.univ
      (.op (.waitDma2 (sendS i) (dstM c i) (srcM c i) (dstM_we c i) (srcM_we c i)) fun _ => drainAll c l k) Q)
    iintro ⟨#HR, #Hlev, Ho, ⟨Hc, Hcs⟩, Ha, Has⟩ Hk
    iapply (wp_wait_lane m ρ K c false i 0 (by rw [MayWait_zero]; iintro -; iempintro)
      (fun G => (wpE_waitDma2_eq 𝒱₀ (c : Thread nD τ) none Set.univ G).trans (by rw [src_credit]; rfl))) $$ [Ho Hc Ha]
    · isplitr; · iexact HR
      isplitr; · iexact Hlev
      isplitl [Ho]; · iexact Ho
      isplitl [Hc] <;> iassumption
    iintro ⟨Ho, Hp, Hz⟩
    iapply ih $$ [Ho Hcs Has]
    · isplitr; · iexact HR
      isplitr; · iexact Hlev
      isplitl [Ho]; · iexact Ho
      isplitl [Hcs] <;> iassumption
    iintro ⟨Ho, Hps, Hzs⟩
    iapply Hk
    isplitl [Ho]; · iexact Ho
    isplitl [Hp Hps]
    · isplitl [Hp]; · iapply (Entails.of_eq (show payOf m ρ c one (some (some (false, i))) = sendPay m ρ c i from rfl)); iexact Hp
      iexact Hps
    isplitl [Hz] <;> iassumption

/-- The meeting: the ten units are there once every far end has signalled, and with them the ten places to write to. -/
theorem wp_meet (O : CellTallies nD τ sig Unit) (hmw : (levAts L lv : sProp 𝕄) ⊢ MayWait (c : Thread nD τ) (.reg barS) () O)
    (k : PUnit → P₀ F) (Q : PUnit → sProp 𝕄) :
    iprop(records m ρ K ∗ levAts L lv ∗ owing c O ∗ cred (tallyAt (barCell c) () 10) ∗ fresh c none)
      ⊢ iprop(((owing c O ∗ bigSepL lanes (barPay (F := F) c) ∗ semVal (barCell c) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (10#32).toInt) k) Q) := by
  unfold owing fresh
  iintro ⟨#HR, #Hlev, ⟨%W, Ho⟩, Hc, Ha⟩ Hk
  ihave Hx := (records_at m ρ K c none) $$ HR
  icases Hx with ⟨#HI, -⟩
  iapply (Rounds.wp_wait_rest_token 𝒱₀ ER (Rd m ρ) (c : Thread nD τ) none (κ := K (c, none)) (sm := csem none)
      (wpE_semWait_eq 𝒱₀ (c : Thread nD τ) none Set.univ) (Set.mem_univ _) () (O := O) (W := W) (R := 0) (m := 0) (T := ∅)
      ((by decide : 0 + _ = 10).trans (expect_bar m ρ c).symm)) $$ [Ho Hc Ha]
  · isplitr; · iexact HI
    isplitl [Hc]; · iexact Hc
    isplitl [Ho]; · iexact Ho
    isplitr; · iapply hmw; iexact Hlev
    iexact Ha
  iintro ⟨Ho, Ha, -, Hp⟩
  ihave Hp := (Entails.of_eq (rest_bar m ρ c)) $$ Hp
  imod (Rounds.cell_close ER (Rd m ρ) (Set.mem_univ (K (c, none))) (fun h => h) (R := 0 + 1) (duties_later m ρ (barCell c))) $$ [Ha] with Hz
  · isplitr; · iexact HI
    iexact Ha
  iapply Hk
  isplitl [Ho]; · iexists _; iexact Ho
  isplitl [Hp] <;> iassumption

end Rules

end Cert.KernelIdeal.Coll

end
-- ==== Proof.KernelIdeal.Body.lean ====
/-
# The body on one device

From what the launch leaves a device — its staged input, its result buffer, its landing buffer, its semaphores' ghost
state — the body reaches the end with the result in place and every semaphore at zero.
-/
module

public import proofs.«01_k».proof.Proof.KernelIdeal.Loops

@[expose] public section

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Lists of lanes and families over them -/

omit [FloatOps F] in
/-- A family over the exchange lanes is one over the three numbers. -/
theorem z_family (Ψ : Lane → sProp 𝕄) : bigSepL zLanes Ψ = bigSep Finset.univ fun k : Fin 3 => Ψ (.inl k) :=
  (bigSep_univ_eq_bigSepL [0, 1, 2] (by decide) (by decide) fun k : Fin 3 => Ψ (.inl k)).symm
omit [FloatOps F] in
/-- A family over the pass-round lanes is one over the seven numbers. -/
theorem g_family (Ψ : Lane → sProp 𝕄) : bigSepL gLanes Ψ = bigSep Finset.univ fun k : Fin 7 => Ψ (.inr k) :=
  (bigSep_univ_eq_bigSepL [0, 1, 2, 3, 4, 5, 6] (by decide) (by decide) fun k : Fin 7 => Ψ (.inr k)).symm
omit [FloatOps F] in
/-- A family over the list of lanes is one over every lane. -/
theorem all_family (Ψ : Lane → sProp 𝕄) : bigSepL lanes Ψ = bigSep Finset.univ Ψ :=
  (bigSep_univ_eq_bigSepL lanes (by decide) (by decide) Ψ).symm
omit [FloatOps F] in
/-- The lanes are the exchange lanes and the pass-round lanes. -/
theorem lanes_split (Ψ : Lane → sProp 𝕄) : bigSepL lanes Ψ = iprop(bigSepL zLanes Ψ ∗ bigSepL gLanes Ψ) := by
  rw [all_family, z_family, g_family]; exact bigSep_univ_sum Ψ

/-! ## Handing over and taking back the buffers -/

/-- The landing buffer, ready to be handed over slot by slot. -/
theorem give_slots (c : Dev nD) (f : (cc0_scratch0 : Ref sig .tc).ty.Contents (Elt F)) :
    (((c : Thread nD τ).loc cc0_scratch0) ↦{fullShare} f : sProp 𝕄) ⊢ bigSepL zLanes fun i => barPay (F := F) (peer c i) (dual i) := by
  rw [scr_slots, z_family, bigSep_univ_equiv Fin.revPerm (fun k : Fin 3 => slotPts (F := F) c k f)]
  refine bigSep_mono fun k _ => ?_
  show slotPts c k.rev f ⊢ iprop(∃ f, slotPts (F := F) (peer (peer c (.inl k)) (dual (.inl k))) k.rev f)
  rw [peer_dual]
  iintro H; iexists f; iexact H

/-- The result buffer, ready to be handed over row group by row group, this device's own kept. -/
theorem give_rows (c : Dev nD) (f : (cc0_stg1_0 : Ref sig .tc).ty.Contents (Elt F)) :
    (((c : Thread nD τ).loc cc0_stg1_0) ↦{fullShare} f : sProp 𝕄)
      ⊢ iprop(rowsPts c c fullShare f ∗ bigSepL gLanes fun i => barPay (F := F) (peer c i) (dual i)) := by
  rw [out_rows, g_family]
  refine BIClass.sep_mono (BI.Entails.refl _) (bigSep_mono fun k _ => ?_)
  show rowsPts c (peer c (.inr k)) fullShare f ⊢ iprop(∃ f, rowsPts (F := F) (peer (peer c (.inr k)) (dual (.inr k))) (peer c (.inr k)) fullShare f)
  rw [peer_dual]
  iintro H; iexists f; iexact H

/-- The three filled slots are the filled landing buffer. -/
theorem take_slots (c : Dev nD) : bigSepL zLanes (recvPay m ρ c) ⊢ (((c : Thread nD τ).loc cc0_scratch0) ↦{fullShare} scrAt m ρ c : sProp 𝕄) := by
  rw [scr_slots, z_family]
  exact BI.Entails.refl _

/-- A device's own rows and the seven received blocks of rows are the finished result. -/
theorem take_rows (c : Dev nD) :
    iprop(rowsPts c c fullShare (outAt m ρ c) ∗ bigSepL gLanes (recvPay m ρ c))
      ⊢ (((c : Thread nD τ).loc cc0_stg1_0) ↦{fullShare} outAt m ρ c : sProp 𝕄) := by
  rw [out_rows, g_family, bigSep_univ_equiv Fin.revPerm (fun k : Fin 7 => rowsPts c (peer c (.inr k)) fullShare (outAt m ρ c))]
  exact BI.Entails.refl _

/-- The staged input as held by a device, at a share. -/
def xPts (c : Dev nD) (q : PosShare TreeShare) : sProp 𝕄 := ((c : Thread nD τ).loc cc0_stg0_0) ↦{q} xstg m ρ c
/-- What stays of the share of the staged input that goes with an exchange lane, its piece apart. -/
def xRest (c : Dev nD) (k : Fin 3) : sProp 𝕄 :=
  (c : Thread nD τ).loc cc0_stg0_0 ↦[Finset.univ \ (pieceM c k).view.set]{shareTok fullShare 3 k} xstg m ρ c

/-- The staged input is what the three transfers read, and what they do not. -/
theorem x_shares (c : Dev nD) :
    xPts m ρ c fullShare ⊣⊢ iprop(xPts m ρ c (shareDrop fullShare 3) ∗ bigSepL zLanes (sendPay m ρ c) ∗ bigSep Finset.univ (xRest m ρ c)) := by
  have h : (bigSep Finset.univ fun k : Fin 3 => xPts m ρ c (shareTok fullShare 3 k))
      ⊣⊢ iprop(bigSepL zLanes (sendPay m ρ c) ∗ bigSep Finset.univ (xRest m ρ c)) := by
    rw [z_family, ← bigSep_sep']
    exact ⟨bigSep_mono fun k _ => (pointsTo_split_subset (Finset.subset_univ _)).1, bigSep_mono fun k _ => (pointsTo_split_subset (Finset.subset_univ _)).2⟩
  exact ⟨(pointsTo_toks_split fullShare 3).trans (BIClass.sep_mono (BI.Entails.refl _) h.1),
    (BIClass.sep_mono (BI.Entails.refl _) h.2).trans (pointsTo_toks_join fullShare 3)⟩

/-- This device's finished rows are what the seven transfers read, and a remainder. -/
theorem own_shares (c : Dev nD) :
    rowsPts c c fullShare (outAt m ρ c) ⊣⊢ iprop(rowsPts c c (shareDrop fullShare 7) (outAt m ρ c) ∗ bigSepL gLanes (sendPay m ρ c)) := by
  rw [g_family]
  exact ⟨pointsTo_toks_split fullShare 7, pointsTo_toks_join fullShare 7⟩

/-! ## The middle -/

section Middle
variable (K : Dev nD × CellIx → ℕ) (c : Dev nD)

/-- Waiting for one exchange lane and loading what came. -/
theorem wp_take (j : Fin 3) (k : (S1x32x256.Idx → Elt F .f32) → P₀ F) (Q : PUnit → sProp 𝕄) :
    iprop(records m ρ K ∗ levAts L lv ∗ owing c (0 + debt (xferDebt c) gLanes)
        ∗ cred (tallyAt (recvCell c (.inl j)) () N) ∗ fresh c (some (true, .inl j)))
      ⊢ iprop(((owing c (0 + debt (xferDebt c) gLanes) ∗ recvPay m ρ c (.inl j) ∗ semVal (recvCell c (.inl j)) 0)
            -∗ wp frame (wpE (defs₀ (F := F)) 𝒱₀ (c : Thread nD τ) none) Set.univ (k (slotV m ρ c j)) Q)
          -∗ wp frame (wpE (defs₀ (F := F)) 𝒱₀ (c : Thread nD τ) none) Set.univ
              (awaitAll c [.inl j] (.op (.load rM (slotRect j).toLoadRect (View.loadsAt_vmem h_S1x32x256)) k)) Q) := by
  iintro ⟨#HR, #Hlev, Ho, Hc, Ha⟩ Hk
  iapply (wp_awaits m ρ K c [.inl j] (0 + debt (xferDebt c) gLanes) (fun i hi => by
    rw [List.mem_singleton.mp hi]; exact mayWait_z c j)) $$ [Ho Hc Ha]
  · isplitr; · iexact HR
    isplitr; · iexact Hlev
    isplitl [Ho]; · iexact Ho
    rw [bigSepL_singleton, bigSepL_singleton]
    isplitl [Hc]; · iexact Hc
    iexact Ha
  rw [bigSepL_singleton, bigSepL_singleton]
  iintro ⟨Ho, Hp, Hz⟩
  ihave Hs := (Entails.of_eq (show recvPay m ρ c (.inl j) = (rM.view.loc (c : Thread nD τ) ↦[(slotM j).view.set]{fullShare} scrAt m ρ c) from rfl)) $$ Hp
  iapply (wp_load 𝒱₀ (c : Thread nD τ) none Set.univ (m := rM) (slot_load_set j)) $$ Hs
  iintro Hs
  iapply Hk
  isplitl [Ho]; · iexact Ho
  isplitl [Hs]
  · iapply (Entails.of_eq (show (rM.view.loc (c : Thread nD τ) ↦[(slotM j).view.set]{fullShare} scrAt m ρ c) = recvPay m ρ c (.inl j) from rfl)); iexact Hs
  iexact Hz

/-- The middle: the finished rows end up in place, all three blocks of the exchange received. -/
theorem wp_addUp (q : PosShare TreeShare) (g : (cc0_stg1_0 : Ref sig .tc).ty.Contents (Elt F)) (k : P₀ F) (Q : PUnit → sProp 𝕄) :
    iprop(records m ρ K ∗ levAts L lv ∗ owing c (0 + debt (xferDebt c) gLanes)
        ∗ bigSepL zLanes (fun i => cred (tallyAt (recvCell c i) () N)) ∗ bigSepL zLanes (fun i => fresh c (some (true, i)))
        ∗ xPts m ρ c q ∗ rowsPts c c fullShare g)
      ⊢ iprop(((owing c (0 + debt (xferDebt c) gLanes) ∗ bigSepL zLanes (recvPay m ρ c) ∗ bigSepL zLanes (fun i => semVal (recvCell c i) 0)
              ∗ xPts m ρ c q ∗ rowsPts c c fullShare (outAt m ρ c))
            -∗ wp frame (wpE (defs₀ (F := F)) 𝒱₀ (c : Thread nD τ) none) Set.univ k Q)
          -∗ wp frame (wpE (defs₀ (F := F)) 𝒱₀ (c : Thread nD τ) none) Set.univ (addUp c k) Q) := by
  unfold addUp
  simp only [bigSepL_cons', bigSepL_nil]
  iintro ⟨#HR, #Hlev, Ho, ⟨Hc0, Hc1, Hc2, -⟩, ⟨Ha0, Ha1, Ha2, -⟩, Hx, Hr⟩ Hk
  ihave Hx := (Entails.of_eq (show xPts m ρ c q = ((ownM c).view.loc (c : Thread nD τ) ↦[Finset.univ]{q} xstg m ρ c) from rfl)) $$ Hx
  iapply (wp_load 𝒱₀ (c : Thread nD τ) none Set.univ (m := ownM c) (Finset.subset_univ _)) $$ Hx
  iintro Hx
  iapply (wp_take m ρ K c 0) $$ [Ho Hc0 Ha0]
  · isplitr; · iexact HR
    isplitr; · iexact Hlev
    isplitl [Ho]; · iexact Ho
    isplitl [Hc0] <;> iassumption
  iintro ⟨Ho, Hp0, Hz0⟩
  iapply (wp_take m ρ K c 1) $$ [Ho Hc1 Ha1]
  · isplitr; · iexact HR
    isplitr; · iexact Hlev
    isplitl [Ho]; · iexact Ho
    isplitl [Hc1] <;> iassumption
  iintro ⟨Ho, Hp1, Hz1⟩
  iapply (wp_take m ρ K c 2) $$ [Ho Hc2 Ha2]
  · isplitr; · iexact HR
    isplitr; · iexact Hlev
    isplitl [Ho]; · iexact Ho
    isplitl [Hc2] <;> iassumption
  iintro ⟨Ho, Hp2, Hz2⟩
  ihave Hr := (Entails.of_eq (show rowsPts c c fullShare g = (oM.view.loc (c : Thread nD τ) ↦[(rowsM c).view.set]{fullShare} g) from rfl)) $$ Hr
  iapply (wp_load 𝒱₀ (c : Thread nD τ) none Set.univ (m := oM) (load_set c)) $$ Hr
  iintro Hr
  iapply (wp_store 𝒱₀ (c : Thread nD τ) none Set.univ (m := oM) (r := storeRect c) (Mk := Finset.univ) (store_set c)) $$ Hr
  iintro Hr
  iapply Hk
  isplitl [Ho]; · iexact Ho
  isplitl [Hp0 Hp1 Hp2]
  · isplitl [Hp0]; · iexact Hp0
    isplitl [Hp1]; · iexact Hp1
    isplitl [Hp2]; · iexact Hp2
    iempintro
  isplitl [Hz0 Hz1 Hz2]
  · isplitl [Hz0]; · iexact Hz0
    isplitl [Hz1]; · iexact Hz1
    isplitl [Hz2]; · iexact Hz2
    iempintro
  isplitl [Hx]
  · iapply (Entails.of_eq (show ((ownM c).view.loc (c : Thread nD τ) ↦[Finset.univ]{q} xstg m ρ c) = xPts m ρ c q from rfl)); iexact Hx
  iapply (Entails.of_eq (show (oM.view.loc (c : Thread nD τ) ↦[(rowsM c).view.set]{fullShare} (oM.access (storeRect c)).write (Elt F) g (acc m ρ c) Finset.univ)
    = rowsPts c c fullShare (outAt m ρ c) from store_rows m ρ c g))
  iexact Hr

end Middle

/-! ## The whole body -/

/-- What a device starts from, besides the records: its place in each of its cells' round, and the right to pay what it
    pays — a unit at each far end's meeting semaphore, a block at its own sending and at the far end's receiving one. -/
def linear (c : Dev nD) : sProp 𝕄 :=
  iprop(fresh c none ∗ bigSepL lanes (fun i => fresh c (some (false, i))) ∗ bigSepL lanes (fun i => fresh c (some (true, i)))
    ∗ bigSepL lanes (fun i => dutyTok ER (barCell (peer c i)) 0 (dual i))
    ∗ bigSepL lanes (fun i => dutyTok ER (sendCell c i) 0 one)
    ∗ bigSepL lanes (fun i => dutyTok ER (recvCell (peer c i) i) 0 one))

/-- What others owe it: ten units at its meeting semaphore, a block at each receiving one. -/
def dues (c : Dev nD) : sProp 𝕄 :=
  iprop(cred (tallyAt (barCell c) () 10) ∗ bigSepL lanes (fun i => cred (tallyAt (recvCell c i) () N)))

/-- What a device starts with besides its buffers: the records, its tokens, its credits and the levels. -/
def start (c : Dev nD) : sProp 𝕄 := iprop((∃ K, records m ρ K ∗ linear c) ∗ dues c ∗ levAts L lv)

/-- What a device starts with, its landing buffer included. -/
def Φ₀ (c : Dev nD) : sProp 𝕄 := iprop(start m ρ c ∗ ∃ f, ((c : Thread nD τ).loc cc0_scratch0) ↦{fullShare} f)
/-- What a device ends with: the filled landing buffer and every semaphore at zero. -/
def Φ₁ (c : Dev nD) : sProp 𝕄 :=
  iprop((((c : Thread nD τ).loc cc0_scratch0) ↦{fullShare} scrAt m ρ c) ∗ semVal (barCell c) 0
    ∗ bigSepL lanes (fun i => semVal (sendCell c i) 0) ∗ bigSepL lanes (fun i => semVal (recvCell c i) 0))

section Whole
variable (K : Dev nD × CellIx → ℕ) (c : Dev nD)

/-- The body as loops, from start to end. -/
theorem wp_bodyAt (f : (cc0_scratch0 : Ref sig .tc).ty.Contents (Elt F)) (g : (cc0_stg1_0 : Ref sig .tc).ty.Contents (Elt F))
    (Q : PUnit → sProp 𝕄) :
    iprop(records m ρ K ∗ linear c ∗ dues c ∗ levAts L lv ∗ owing c (O₀ c)
        ∗ (((c : Thread nD τ).loc cc0_scratch0) ↦{fullShare} f) ∗ xPts m ρ c fullShare ∗ (((c : Thread nD τ).loc cc0_stg1_0) ↦{fullShare} g))
      ⊢ iprop(((Φ₁ m ρ c ∗ owing c 0 ∗ xPts m ρ c fullShare ∗ (((c : Thread nD τ).loc cc0_stg1_0) ↦{fullShare} outAt m ρ c)) -∗ Q ⟨⟩)
          -∗ wp frame (wpE (defs₀ (F := F)) 𝒱₀ (c : Thread nD τ) none) Set.univ (bodyAt c) Q) := by
  unfold bodyAt linear dues
  iintro ⟨#HR, ⟨HaB, HaS, HaV, HtB, HtS, HtV⟩, ⟨HcB, HcV⟩, #Hlev, Ho, Hf, Hx, Hg⟩ Hk
  ihave HaS := (Entails.of_eq (lanes_split fun i => fresh (F := F) c (some (false, i)))) $$ HaS
  icases HaS with ⟨HaSz, HaSg⟩
  ihave HaV := (Entails.of_eq (lanes_split fun i => fresh (F := F) c (some (true, i)))) $$ HaV
  icases HaV with ⟨HaVz, HaVg⟩
  ihave HtS := (Entails.of_eq (lanes_split fun i => (dutyTok ER (sendCell c i) 0 one : sProp 𝕄))) $$ HtS
  icases HtS with ⟨HtSz, HtSg⟩
  ihave HtV := (Entails.of_eq (lanes_split fun i => (dutyTok ER (recvCell (peer c i) i) 0 one : sProp 𝕄))) $$ HtV
  icases HtV with ⟨HtVz, HtVg⟩
  ihave HcV := (Entails.of_eq (lanes_split fun i => (cred (tallyAt (recvCell c i) () N) : sProp 𝕄))) $$ HcV
  icases HcV with ⟨HcVz, HcVg⟩
  ihave Hgive := (give_slots (F := F) c f) $$ Hf
  ihave Hgive' := (give_rows (F := F) c g) $$ Hg
  icases Hgive' with ⟨Hr, Hgive'⟩
  ihave Hxs := (x_shares m ρ c).1 $$ Hx
  icases Hxs with ⟨Hx, Hsz, Hrest⟩
  -- the meeting
  unfold O₀
  iapply (wp_signals m ρ K c lanes ((0 + debt (xferDebt c) gLanes) + debt (xferDebt c) zLanes)) $$ [Ho HtB Hgive Hgive']
  · isplitr; · iexact HR
    isplitl [Ho]; · iexact Ho
    isplitl [HtB]; · iexact HtB
    iapply (Entails.of_eq (lanes_split fun i => barPay (F := F) (peer c i) (dual i)).symm)
    isplitl [Hgive] <;> iassumption
  iintro Ho
  iapply (wp_meet m ρ K c ((0 + debt (xferDebt c) gLanes) + debt (xferDebt c) zLanes) (mayWait_bar c)) $$ [Ho HcB HaB]
  · isplitr; · iexact HR
    isplitr; · iexact Hlev
    isplitl [Ho]; · iexact Ho
    isplitl [HcB] <;> iassumption
  iintro ⟨Ho, Hpl, HzB⟩
  ihave Hpl := (Entails.of_eq (lanes_split (barPay (F := F) c))) $$ Hpl
  icases Hpl with ⟨Hplz, Hplg⟩
  -- the exchange
  iapply (wp_sends m ρ K c zLanes (0 + debt (xferDebt c) gLanes)) $$ [Ho HtSz HtVz Hsz Hplz]
  · isplitr; · iexact HR
    isplitl [Ho]; · iexact Ho
    isplitl [HtSz]; · iexact HtSz
    isplitl [HtVz]; · iexact HtVz
    isplitl [Hsz] <;> iassumption
  iintro ⟨Ho, HcSz⟩
  iapply (wp_addUp m ρ K c (shareDrop fullShare 3) g) $$ [Ho HcVz HaVz Hx Hr]
  · isplitr; · iexact HR
    isplitr; · iexact Hlev
    isplitl [Ho]; · iexact Ho
    isplitl [HcVz]; · iexact HcVz
    isplitl [HaVz]; · iexact HaVz
    isplitl [Hx] <;> iassumption
  iintro ⟨Ho, Hscr, HzVz, Hx, Hr⟩
  -- the pass round
  ihave Hrs := (own_shares m ρ c).1 $$ Hr
  icases Hrs with ⟨Hr, Hsg⟩
  iapply (wp_sends m ρ K c gLanes 0) $$ [Ho HtSg HtVg Hsg Hplg]
  · isplitr; · iexact HR
    isplitl [Ho]; · iexact Ho
    isplitl [HtSg]; · iexact HtSg
    isplitl [HtVg]; · iexact HtVg
    isplitl [Hsg] <;> iassumption
  iintro ⟨Ho, HcSg⟩
  iapply (wp_awaits m ρ K c gLanes 0 (fun i _ => by rw [MayWait_zero]; iintro -; iempintro)) $$ [Ho HcVg HaVg]
  · isplitr; · iexact HR
    isplitr; · iexact Hlev
    isplitl [Ho]; · iexact Ho
    isplitl [HcVg] <;> iassumption
  iintro ⟨Ho, Hrows, HzVg⟩
  iapply (wp_drains m ρ K c zLanes) $$ [Ho HcSz HaSz]
  · isplitr; · iexact HR
    isplitr; · iexact Hlev
    isplitl [Ho]; · iexact Ho
    isplitl [HcSz] <;> iassumption
  iintro ⟨Ho, Hsz, HzSz⟩
  iapply (wp_drains m ρ K c gLanes) $$ [Ho HcSg HaSg]
  · isplitr; · iexact HR
    isplitr; · iexact Hlev
    isplitl [Ho]; · iexact Ho
    isplitl [HcSg] <;> iassumption
  iintro ⟨Ho, Hsg, HzSg⟩
  rw [wp_ret]; imodintro
  iapply Hk
  unfold Φ₁
  isplitl [Hscr HzB HzSz HzSg HzVz HzVg]
  · isplitl [Hscr]; · iapply (take_slots m ρ c); iexact Hscr
    isplitl [HzB]; · iexact HzB
    isplitl [HzSz HzSg]
    · iapply (Entails.of_eq (lanes_split fun i => (semVal (sendCell c i) 0 : sProp 𝕄)).symm)
      isplitl [HzSz] <;> iassumption
    · iapply (Entails.of_eq (lanes_split fun i => (semVal (recvCell c i) 0 : sProp 𝕄)).symm)
      isplitl [HzVz] <;> iassumption
  isplitl [Ho]; · iexact Ho
  isplitl [Hx Hsz Hrest]
  · iapply (x_shares m ρ c).2
    isplitl [Hx]; · iexact Hx
    isplitl [Hsz] <;> iassumption
  iapply (take_rows m ρ c)
  isplitl [Hr Hsg]
  · iapply (own_shares m ρ c).2
    isplitl [Hr] <;> iassumption
  iexact Hrows

end Whole

end Cert.KernelIdeal.Coll

end
-- ==== Proof.KernelIdeal.Launch.lean ====
/-
# The launch: every device's body together

The pipeline's proof data, its body obligation, the ghost state of the ring of semaphores dealt to the devices, the
credits the launch hands out, and the run of `main`.
-/
module

public import proofs.«01_k».proof.Proof.KernelIdeal.Body
public import Idealize.ShloMosaic.Lib.Pipeline.CollectiveSegs

@[expose] public section

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data and the body obligation -/

/-- The pipeline's data on a device: the argument goes in as it is, the result comes out computed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- The argument is fetched at the only point. -/
theorem fetch_0 (t : Fin cfg0.N) : (cfg0.win (0 : Fin 2)).fetch t = true := by rw [fin_N0 t]; rfl

/-- A device holds a buffer at given contents. -/
abbrev holds (c : Dev nD) (b : Ref sig .tc) (X : b.ty.Contents (Elt F)) : sProp 𝕄 :=
  iprop(∃ f : b.ty.Contents (Elt F), ⌜f = X⌝ ∗ ((c : Thread nD τ).loc b ↦{fullShare} f))

omit [FloatOps F] in
/-- Owning a whole buffer at given contents is holding it so. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = holds c b X := by
  unfold owns
  simp only [Memref.view_whole, View.read_whole, View.set_whole]

/-- What the pipeline hands the body, -/
def bodyPre (c : Dev nD) : sProp 𝕄 :=
  iprop(Φ₀ m ρ c ∗ (dats m ρ 0 c).owesAt () t0_0.castSucc
    ∗ (∃ d, holds c cc0_stg0_0 ((dats m ρ 0 c).before (0 : Fin 2) t0_0 d))
    ∗ (∃ d, holds c cc0_stg1_0 ((dats m ρ 0 c).before (1 : Fin 2) t0_0 d)))
/-- and what the body hands back. -/
def bodyPost (c : Dev nD) : sProp 𝕄 :=
  iprop(Φ₁ m ρ c ∗ (dats m ρ 0 c).owesAt () t0_0.succ ∗ holds c cc0_stg0_0 (xstg m ρ c) ∗ holds c cc0_stg1_0 (outAt m ρ c))

/-- The printed body, from what the pipeline hands it to what it hands back. -/
theorem sound_body (c : Dev nD) :
    bodyPre m ρ c ⊢ wp frame (wpE (defs₀ (F := F)) 𝒱₀ (c : Thread nD τ) none) Set.univ
      (cc0_body (F := F) xM (Memref.isWhole_whole _) oM (Memref.isWhole_whole _) rM (Memref.isWhole_whole _)
        cc0_scratch1 cc0_scratch2 cc0_scratch3 cc0_scratch4) (fun _ => bodyPost m ρ c) := by
  rw [body_eq]
  simp only [wp_deviceId]
  unfold bodyPre Φ₀ start
  iintro ⟨⟨⟨⟨%K, #HR, Hlin⟩, Hdue, #Hlev⟩, %f, Hf⟩, Ho, ⟨%d0, %g0, %hg0, Hx⟩, ⟨%d1, %g1, %hg1, Hg⟩⟩
  have hx : g0 = xstg m ρ c := by rw [hg0]; unfold Dat.before; rw [if_pos (fetch_0 t0_0)]; rfl
  subst hx
  unfold Dat.owesAt Pipeline.owesWithin
  icases Ho with ⟨%W, %hW, Ho⟩
  rw [show (dats m ρ 0 c).owed t0_0.castSucc = O₀ c from rfl]
  iapply (wp_bodyAt m ρ K c f g1) $$ [Hlin Hdue Ho Hf Hx Hg]
  · isplitr; · iexact HR
    isplitl [Hlin]; · iexact Hlin
    isplitl [Hdue]; · iexact Hdue
    isplitr; · iexact Hlev
    isplitl [Ho]; · unfold owing; iexists W; iexact Ho
    isplitl [Hf]; · iexact Hf
    isplitl [Hx]; · unfold xPts; iexact Hx
    iexact Hg
  unfold owing xPts
  iintro ⟨HΦ, ⟨%W', Ho⟩, Hx, Hg⟩
  unfold bodyPost Dat.owesAt Pipeline.owesWithin
  rw [show (dats m ρ 0 c).owed t0_0.succ = 0 from rfl]
  isplitl [HΦ]; · iexact HΦ
  isplitl [Ho]
  · iexists W'
    isplitr; · ipureintro; exact fun _ _ => Or.inl trivial
    iexact Ho
  isplitl [Hx]
  · iexists _; isplitr; · (ipureintro; rfl)
    iexact Hx
  iexists _; isplitr; · (ipureintro; rfl)
  iexact Hg

set_option maxRecDepth 4000 in
/-- The library's obligation on the body. -/
theorem body_obligation (c : Dev nD) : BodyObligation (dats (F := F) m ρ 0 c) (defs₀ (F := F)) 𝒱₀ () Set.univ := fun t => by
  rw [fin_N0 t, bigSep_W0, bigSep_W0]
  simp only [owns_whole]
  exact sound_body m ρ c

/-! ## The ghost state at launch -/

/-- The kernel's own semaphores: two per lane. -/
abbrev osem : Bool × Lane → SemLoc sig := fun p => csem (some p)
/-- The transfer semaphores are the kernel's own: distinct, scoped, and none of the pipeline's. -/
theorem ownSemFacts : Pipeline.OwnSemFacts cfg0.spec osem := by decide +kernel

/-- Every window is held outright. -/
theorem share_eq (c : Dev nD) (w : Fin cfg0.W) : (dats m ρ 0 c).share w = fullShare := by unfold Dat.share; split <;> rfl

/-- The semaphores as pairs of a device and a semaphore of it, -/
def cellAt (p : Dev nD × CellIx) : GSem nD τ sig := cell p.1 p.2
/-- Different pairs are different semaphores. -/
theorem cellAt_injective : Function.Injective cellAt := fun p q h =>
  Prod.ext (congrArg (fun g : GSem nD τ sig => g.1.1) h) (csem_injective (congrArg Prod.snd h))
/-- as a finite set. -/
def allCells : Finset (GSem nD τ sig) := Finset.univ.map ⟨cellAt, cellAt_injective⟩

/-- The duties of a device's cells: one per lane at its meeting semaphore (`none`), one at each transfer semaphore. -/
abbrev TokIx : Type := Lane ⊕ Bool × Lane
/-- The duties of a device's semaphores: one per lane at the meeting one, one at each transfer one, -/
def tokAt : Dev nD × TokIx → GSem nD τ sig × ℕ × Lane
  | (c, .inl j) => (barCell c, 0, j)
  | (c, .inr p) => (cell c (some p), 0, one)
/-- Different duties have different names. -/
theorem tokAt_injective : Function.Injective tokAt := by
  rintro ⟨c, j | p⟩ ⟨d, j' | p'⟩ h
  · have h1 : c = d := congrArg (fun t : GSem nD τ sig × ℕ × Lane => t.1.1.1) h
    have h2 : j = j' := congrArg (fun t : GSem nD τ sig × ℕ × Lane => t.2.2) h
    rw [h1, h2]
  · have h2 : csem none = csem (some p') := congrArg (fun t : GSem nD τ sig × ℕ × Lane => t.1.2) h
    exact nomatch csem_injective h2
  · have h2 : csem (some p) = csem none := congrArg (fun t : GSem nD τ sig × ℕ × Lane => t.1.2) h
    exact nomatch csem_injective h2
  · have h1 : c = d := congrArg (fun t : GSem nD τ sig × ℕ × Lane => t.1.1.1) h
    have h2 : some p = some p' := csem_injective (congrArg (fun t : GSem nD τ sig × ℕ × Lane => t.1.2) h)
    rw [h1, Option.some.inj h2]
/-- as a finite set. -/
def allToks : Finset (GSem nD τ sig × ℕ × Lane) := Finset.univ.map ⟨tokAt, tokAt_injective⟩

/-- The ghost state the launch starts from. -/
def u₀ : UU := (initOf (Pipeline.cells cfgs cellOf_inj) (Pipeline.launchToks cfgs cellOf_inj), initOf allCells allToks)

/-- The duty tokens of a device's own cells. -/
def toks (c : Dev nD) : sProp 𝕄 :=
  iprop((bigSep Finset.univ fun j : Lane => dutyTok ER (barCell c) 0 j)
    ∗ (bigSep Finset.univ fun i : Lane => dutyTok ER (sendCell c i) 0 one) ∗ bigSep Finset.univ fun i : Lane => dutyTok ER (recvCell c i) 0 one)

/-- What the launch deals a device. -/
def G (c : Dev nD) : sProp 𝕄 :=
  iprop((bigSep Finset.univ fun x : CellIx => roundState ER (Rd m ρ) (cell c x) 0)
    ∗ (bigSep Finset.univ fun x : CellIx => iprop(fresh (F := F) c x ∗ reached ER (cell c x) 0)) ∗ toks c)
/-- What the launch gives a device once the invariants are there. -/
def G' (c : Dev nD) : sProp 𝕄 := iprop(∃ K, records m ρ K ∗ linear c)

omit [FloatOps F] in
/-- A family over pairs of a truth value and a lane is its two halves. -/
theorem bool_family {X : Type} [Fintype X] (Φ : Bool × X → sProp 𝕄) :
    bigSep Finset.univ Φ = iprop((bigSep Finset.univ fun x => Φ (false, x)) ∗ bigSep Finset.univ fun x => Φ (true, x)) := by
  rw [bigSep_univ_prod]
  exact bigSep_univ_eq_bigSepL [false, true] (by decide) (by decide) fun b => bigSep Finset.univ fun x => Φ (b, x)

omit [FloatOps F] in
/-- A family over an optional index is its member at none and the rest. -/
theorem option_family {X : Type} [Fintype X] [DecidableEq X] (Φ : Option X → sProp 𝕄) :
    bigSep Finset.univ Φ = iprop(Φ none ∗ bigSep Finset.univ fun x => Φ (some x)) := by
  rw [bigSep_univ_equiv (Equiv.optionEquivSumPUnit.{0} X).symm Φ, bigSep_univ_sum, Finset.univ_unique (α := PUnit.{1}), bigSep_singleton]
  exact BI.Entails.antisymm (show _ ⊢ (_ : sProp 𝕄) from Laws.sep_comm.1) (show _ ⊢ (_ : sProp 𝕄) from Laws.sep_comm.1)

/-- The ghost state of the semaphores, dealt out device by device. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun x : CellIx => Φ (cell c x) := by
    unfold allCells; rw [bigSep_map, bigSep_univ_prod]; rfl
  have hT : bigSep allToks (fun t => (dutyTok ER t.1 t.2.1 t.2.2 : sProp 𝕄)) = bigSep Finset.univ fun c : Dev nD => toks c := by
    unfold allToks; rw [bigSep_map, bigSep_univ_prod]
    exact bigSep_congr fun c _ => by rw [bigSep_univ_sum, bool_family]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores at zero are its transfer semaphores at zero; -/
theorem ownSems0_eq (c : Dev nD) : (Pipeline.ownSems0 (Ix := Unit) (Name := ℕ) (U := UU) (Lvl := ℕ) (Val := Elt F) (τ := τ) osem c : sProp 𝕄)
    = bigSep Finset.univ fun p : Bool × Lane => semVal (cell c (some p)) 0 := rfl
omit [FloatOps F] in
/-- the meeting semaphore is the one that outlives the launch. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores at zero, as one family. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : CellIx => semVal (cell c x) 0 : sProp 𝕄) := by
  rw [ownSems0_eq, unscopedSems0_eq, option_family]
  iintro ⟨H, HB⟩
  isplitl [HB] <;> iassumption

/-- A device's cells get their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x : CellIx => iprop(∃ κ : ℕ, cellInv ER (Rd m ρ) κ (cell c x)))
          ∗ (bigSep Finset.univ fun x : CellIx => iprop(fresh (F := F) c x ∗ reached ER (cell c x) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun x : CellIx => semVal (cell c x) 0) ∗ bigSep Finset.univ fun x : CellIx => roundState ER (Rd m ρ) (cell c x) 0)
      ⊢ (|={Set.univ}=> bigSep Finset.univ fun x : CellIx => iprop(∃ κ : ℕ, cellInv ER (Rd m ρ) κ (cell c x)) : sProp 𝕄) from by
        rw [← bigSep_sep']
        exact (bigSep_mono fun x _ => (Rounds.body_intro ER (Rd m ρ) (cell c x)).trans inv_alloc).trans (bigSep_fupd _ _)) $$ [Hv Hst] with Hinv
  · isplitl [Hv] <;> iassumption
  imodintro
  isplitl [Hinv]; · iexact Hinv
  isplitl [Hat] <;> iassumption

/-- What a family over pairs of a device and a lane is along the lanes: each lane's member at the far end. -/
theorem along_lanes (Ψ : Dev nD → Lane → sProp 𝕄) :
    (bigSep Finset.univ fun c : Dev nD => bigSep Finset.univ fun i : Lane => Ψ c i)
      = bigSep Finset.univ fun c : Dev nD => bigSep Finset.univ fun i : Lane => Ψ (peer c i) i := by
  have swap (Θ : Dev nD → Lane → sProp 𝕄) : (bigSep Finset.univ fun c : Dev nD => bigSep Finset.univ fun i : Lane => Θ c i)
      = bigSep Finset.univ fun i : Lane => bigSep Finset.univ fun c : Dev nD => Θ c i := by
    rw [← bigSep_univ_prod fun p : Dev nD × Lane => Θ p.1 p.2, ← bigSep_univ_prod fun p : Lane × Dev nD => Θ p.2 p.1]
    exact bigSep_univ_equiv (Equiv.prodComm _ _) fun p : Dev nD × Lane => Θ p.1 p.2
  rw [swap, swap]
  exact bigSep_congr fun i _ => bigSep_univ_equiv (along i) fun c => Ψ c i

/-- The tokens go where they are spent: a meeting semaphore's along each lane to the far end, a receiving one's to its sender. -/
theorem toks_around : (bigSep Finset.univ fun c : Dev nD => (toks c : sProp 𝕄))
    = bigSep Finset.univ fun c : Dev nD => iprop((bigSep Finset.univ fun i : Lane => dutyTok ER (barCell (peer c i)) 0 (dual i))
      ∗ (bigSep Finset.univ fun i : Lane => dutyTok ER (sendCell c i) 0 one)
      ∗ bigSep Finset.univ fun i : Lane => dutyTok ER (recvCell (peer c i) i) 0 one) := by
  unfold toks
  rw [bigSep_sep', bigSep_sep', bigSep_sep', bigSep_sep',
    along_lanes (fun c i => (dutyTok ER (recvCell c i) 0 one : sProp 𝕄)),
    ← along_lanes (fun c i => (dutyTok ER (barCell c) 0 (dual i) : sProp 𝕄))]
  congr 1
  exact bigSep_congr fun c _ => bigSep_univ_equiv (⟨dual, dual, dual_dual, dual_dual⟩ : Lane ≃ Lane) fun j => (dutyTok ER (barCell c) 0 j : sProp 𝕄)

/-- What stays with a device: its places and the tokens it spends. -/
theorem linear_intro (c : Dev nD) :
    iprop((bigSep Finset.univ fun x : CellIx => fresh (F := F) c x) ∗ (bigSep Finset.univ fun i : Lane => dutyTok ER (barCell (peer c i)) 0 (dual i))
      ∗ (bigSep Finset.univ fun i : Lane => dutyTok ER (sendCell c i) 0 one)
      ∗ bigSep Finset.univ fun i : Lane => dutyTok ER (recvCell (peer c i) i) 0 one) ⊢ linear (F := F) c := by
  unfold linear
  rw [option_family, bool_family]
  simp only [all_family]
  iintro ⟨⟨H1, H2, H3⟩, H4⟩
  isplitl [H1]; · iexact H1
  isplitl [H2]; · iexact H2
  isplitl [H3]; · iexact H3
  iexact H4

/-- Each device keeps its places and receives the tokens it spends. -/
theorem deal : iprop((bigSep Finset.univ fun c : Dev nD => bigSep Finset.univ fun x : CellIx => fresh (F := F) c x)
      ∗ bigSep Finset.univ fun c : Dev nD => iprop((bigSep Finset.univ fun i : Lane => dutyTok ER (barCell (peer c i)) 0 (dual i))
      ∗ (bigSep Finset.univ fun i : Lane => dutyTok ER (sendCell c i) 0 one)
      ∗ bigSep Finset.univ fun i : Lane => dutyTok ER (recvCell (peer c i) i) 0 one)) ⊢ (bigSep Finset.univ fun c => linear (F := F) c : sProp 𝕄) := by
  rw [← bigSep_sep']; exact bigSep_mono fun c _ => linear_intro c

/-- With the records every device has its share. -/
theorem share_records (K : Dev nD × CellIx → ℕ) :
    iprop(records m ρ K ∗ bigSep Finset.univ fun c : Dev nD => linear (F := F) c) ⊢ bigSep Finset.univ (G' m ρ) := by
  refine (sep_mono_left (BI.bigSep_of_persistent (Finset.univ : Finset (Dev nD)) (records m ρ K))).trans ?_
  rw [← bigSep_sep']
  refine bigSep_mono fun c _ => show _ ⊢ G' m ρ c from ?_
  unfold G'
  iintro H
  iexists K; iexact H

/-- The invariants are recorded for every device alike, and the tokens dealt out. -/
theorem regroup :
    (bigSep Finset.univ fun c : Dev nD => iprop((bigSep Finset.univ fun x : CellIx => iprop(∃ κ : ℕ, cellInv ER (Rd m ρ) κ (cell c x)))
          ∗ (bigSep Finset.univ fun x : CellIx => iprop(fresh (F := F) c x ∗ reached ER (cell c x) 0)) ∗ toks c) : sProp 𝕄)
      ⊢ bigSep Finset.univ (G' m ρ) := by
  rw [bigSep_sep', bigSep_sep', toks_around, ← bigSep_univ_prod (fun p : Dev nD × CellIx => iprop(∃ κ : ℕ, cellInv ER (Rd m ρ) κ (cell p.1 p.2))),
    bigSep_congr (s := Finset.univ) (fun (c : Dev nD) _ => bigSep_sep' Finset.univ (fun x : CellIx => fresh (F := F) c x) (fun x => reached ER (cell c x) 0)),
    bigSep_sep', ← bigSep_univ_prod (fun p : Dev nD × CellIx => (reached ER (cell p.1 p.2) 0 : sProp 𝕄))]
  iintro ⟨HI, ⟨Hat, #HR⟩, Htok⟩
  ihave HK := (BI.bigSep_exists_pi Finset.univ (fun (p : Dev nD × CellIx) (κ : ℕ) => (cellInv ER (Rd m ρ) κ (cell p.1 p.2) : sProp 𝕄))) $$ HI
  icases HK with ⟨%K, #HI⟩
  iapply (share_records m ρ K)
  isplitr
  · unfold records; isplitl; · iexact HI
    iexact HR
  iapply (deal (F := F))
  isplitl [Hat] <;> iassumption

/-- The step taken by all devices together before the launch. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credits and the side conditions -/

omit [FloatOps F] in
/-- Debts of a list of lanes are credited lane by lane. -/
theorem debt_creds (f : Dev nD → Lane → CellTallies nD τ sig Unit) (c : Dev nD) (Ψ : Lane → sProp 𝕄)
    (h : ∀ i, (Pipeline.launchCred (fun d => f d i) c : sProp 𝕄) ⊢ Ψ i) :
    ∀ l : List Lane, (Pipeline.launchCred (fun d => debt (f d) l) c : sProp 𝕄) ⊢ bigSepL l Ψ
  | [] => by rw [bigSepL_nil]; exact Entails.of_eq (Pipeline.launchCred_zero c)
  | i :: l => by
    rw [bigSepL_cons', show (fun d => debt (f d) (i :: l)) = fun d => debt (f d) l + f d i from rfl, Pipeline.launchCred_add]
    iintro ⟨H, Hi⟩
    isplitl [Hi]
    · iapply (h i); iexact Hi
    · iapply (debt_creds f c Ψ h l); iexact H

omit [FloatOps F] in
/-- Credits of one unit each add up to their number. -/
theorem ones (g : GSem nD τ sig) : ∀ l : List Lane, (bigSepL l fun _ => cred (tallyAt g () 1) : sProp 𝕄) ⊢ cred (tallyAt g () l.length)
  | [] => by rw [bigSepL_nil, List.length_nil, tallyAt_zero, cred_zero]; exact BI.Entails.refl _
  | i :: l => by
    rw [bigSepL_cons', List.length_cons, ← tallyAt_add]
    iintro ⟨Hi, H⟩
    ihave H := (ones g l) $$ H
    iapply (cred_add _ _).2
    isplitl [H] <;> iassumption

omit [FloatOps F] in
/-- A device is credited one block per receiving semaphore. -/
theorem xfer_creds (c : Dev nD) (l : List Lane) :
    (Pipeline.launchCred (fun d => debt (xferDebt d) l) c : sProp 𝕄) ⊢ bigSepL l fun i => cred (tallyAt (recvCell c i) () N) :=
  debt_creds xferDebt c _ (fun i => Pipeline.launchCred_tallyAt (csem (some (true, i))) (along i) (along i).symm
    (along i).apply_symm_apply (along i).symm_apply_apply () N c) l

omit [FloatOps F] in
/-- The launch's credits are what a device waits for. -/
theorem creds (c : Dev nD) : (Pipeline.launchCred O₀ c : sProp 𝕄) ⊢ dues (F := F) c := by
  rw [show (O₀ : Dev nD → CellTallies nD τ sig Unit)
      = fun d => (((fun _ => 0 + debt (xferDebt d) gLanes) d + debt (xferDebt d) zLanes) + debt (barDebt d) lanes) from rfl,
    Pipeline.launchCred_add, Pipeline.launchCred_add]
  simp only [zero_add]
  unfold dues
  rw [lanes_split]
  iintro ⟨⟨Hg, Hz⟩, Hb⟩
  ihave Hg := (xfer_creds (F := F) c gLanes) $$ Hg
  ihave Hz := (xfer_creds (F := F) c zLanes) $$ Hz
  ihave Hb := (debt_creds (F := F) barDebt c (fun _ => cred (tallyAt (barCell c) () 1)) (fun i => Pipeline.launchCred_tallyAt (csem none) (along i) (along i).symm
    (along i).apply_symm_apply (along i).symm_apply_apply () 1 c) lanes) $$ Hb
  ihave Hb := (ones (F := F) (barCell c) lanes) $$ Hb
  isplitl [Hb]; · iexact Hb
  isplitl [Hz] <;> iassumption

/-- A device starts with its share of the launch. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- A device's start and its landing buffer are what the body asks for. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

/-- What the body leaves is what the launch takes back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq, bool_family]
  unfold Φ₁
  simp only [all_family]
  iintro ⟨Hr, HB, HS, HV⟩
  isplitl [HB]; · iexact HB
  isplitl [HS HV]
  · isplitl [HS] <;> iassumption
  iexists (scrAt m ρ c); iexact Hr

omit [FloatOps F] in
/-- Everything owed at launch lies above the staging semaphores. -/
theorem owed_above (c : Dev nD) : ∀ (g : GSem nD τ sig) (u : Unit), 0 < O₀ c g u → ∃ d x, g = cell d x ∧ 0 < levOf (some x) := fun g u hp => by
  have hp' : 0 < ((0 + debt (xferDebt c) gLanes g u) + debt (xferDebt c) zLanes g u) + debt (barDebt c) lanes g u := hp
  rcases Nat.eq_zero_or_pos (debt (barDebt c) lanes g u) with h0 | h0
  · rcases Nat.eq_zero_or_pos (debt (xferDebt c) zLanes g u) with h1 | h1
    · rw [h0, h1, Nat.zero_add] at hp'
      exact xfer_above c gLanes 0 (by decide) g u hp'
    · exact xfer_above c zLanes 0 (by decide) g u h1
  · obtain ⟨i, -, hp⟩ := debt_pos _ _ _ _ h0
    refine ⟨peer c i, none, ?_, by decide⟩
    by_contra hn
    unfold barDebt at hp
    rw [tallyAt_ne_cell hn] at hp
    exact absurd hp (lt_irrefl 0)

omit [FloatOps F] in
/-- The staging semaphores are at the lowest level. -/
theorem stage_lev : ∀ (w : Fin cfg0.W) (s : Fin (cfg0.win w).nbuf), levOf (decode (SemLoc.dma ((cfg0.win w).sem s))) = 0 := by
  intro w s; fin_cases w <;> fin_cases s <;> decide

/-- A device may wait for its staging copies whatever it owes. -/
theorem waits (c : Dev nD) : (levAts L lv : sProp 𝕄) ⊢ Pipeline.cellsWaits cfgs (dats m ρ) () 0 c :=
  Pipeline.cellsWaits_intro cfgs (dats m ρ) () 0 c fun w s t =>
    mayWait_above c _ 0 _ (le_of_eq (stage_lev w s)) (by
      rcases t with ⟨_ | _, ht⟩
      · exact owed_above c
      · exact fun g u h => absurd h (lt_irrefl 0))

/-! ## The run -/

/-- What a window's array holds at the end. -/
def finalA (c : Dev nD) (w : Fin cfg0.W) : Buf (Elt F) ((cfg0.win w).arr.view.loc (c : Thread nD τ)) := (dats m ρ 0 c).arrAt w cfg0.N

/-- Every window ends at its computed contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with its counters at zero, every weakly fair execution of `main` on the 32 devices ends, each device's
    windows at their computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := fun _ h => if_neg h) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds at the end what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Coll

end
-- ==== Proof.KernelIdeal.Value.lean ====
/-
# The result's value

Each entry of a device's result is the sum, over the four devices of its exchange group, of that entry's addend in the
device's argument; over exact numbers that is the plain sum over the leading axis, cut into its four column blocks.
-/
module

public import proofs.«01_k».proof.Proof.KernelIdeal.Launch
public import proofs.«01_k».proof.Proof.Gen.ReferenceIdeal.Run
public import Idealize.ShloMosaic.Lib.Layout
public import Idealize.ShloMosaic.Lib.Pointwise.Reduce
public import Idealize.ShloMosaic.Lib.Pointwise.Tactic

@[expose] public section

noncomputable section

namespace Cert.KernelIdeal.Coll

open Cert.KernelIdeal Cert.KernelIdeal.Gen

open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

/-! ## What the buffers hold, entry by entry -/

/-- The result array ends at the computed contents. -/
theorem finalA_o (c : Dev nD) : finalA m ρ c (1 : Fin 2) = outAt m ρ c := by
  have hr := fun f => Memref.read_access_unit_zero (Elt F) main_v1
    (show (fun a => (win0_1.index (0 : Fin 1)) a * main_v1.ty.shape.size a) = fun _ => 0 from funext fun a => by fin_cases a <;> decide)
    (fun a => by fin_cases a <;> decide) f
  refine (hr _).symm.trans ?_
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

/-- The staged input is the argument. -/
theorem xstg_eq (c : Dev nD) : xstg m ρ c = m ((c : Thread nD τ).loc main_arg0) :=
  Memref.read_access_unit_zero (Elt F) main_arg0
    (show (fun a => (win0_0.index (0 : Fin 1)) a * main_arg0.ty.shape.size a) = fun _ => 0 from funext fun a => by fin_cases a <;> decide)
    (fun a => by fin_cases a <;> decide) _

/-- Where in an argument a device's addends lie: its rows, and the columns of its `z`. -/
def place (c : Dev nD) (x : S32x256.Idx) : S1x256x1024.Idx :=
  ix3 ⟨0, Nat.one_pos⟩ ⟨32 * (c.val / 4) + (x 0).val, by have h : (x 0).val < 32 := (x 0).isLt; have := c.isLt; simp only [nD] at this; omega⟩
    ⟨256 * (c.val % 4) + (x 1).val, by have h : (x 1).val < 256 := (x 1).isLt; omega⟩

/-- A device's own piece is its addends. -/
theorem own_place (c : Dev nD) (x : S32x256.Idx) : (ownM c).view.emb x = place c x := by
  rw [own_emb]
  funext a
  have h (a : Fin 3) : ((ownRect c).emb (Fin.cons ⟨0, Nat.one_pos⟩ x : S1x32x256.Idx) a).val
      = k0_off2 c a + 1 * ((Fin.cons ⟨0, Nat.one_pos⟩ x : S1x32x256.Idx) a).val := rfl
  refine Fin.ext ((h a).trans ?_)
  rw [off_own]
  fin_cases a
  · rfl
  · show 32 * (c.val / 4) + 1 * (x 0).val = 32 * (c.val / 4) + (x 0).val
    omega
  · show 256 * (c.val % 4) + 1 * (x 1).val = 256 * (c.val % 4) + (x 1).val
    omega

/-- A piece lies where its receiver's addends do. -/
theorem piece_place (d : Dev nD) (k : Fin 3) (x : S32x256.Idx) : (pieceM d k).view.emb x = place (peer d (.inl k)) x := by
  rw [piece_emb]
  funext a
  have h (a : Fin 3) : ((pieceRect d k).emb (Fin.cons ⟨0, Nat.one_pos⟩ x : S1x32x256.Idx) a).val
      = k0_off1 d (BitVec.ofNat 32 (1 + k.val)) a + 1 * ((Fin.cons ⟨0, Nat.one_pos⟩ x : S1x32x256.Idx) a).val := rfl
  refine Fin.ext ((h a).trans ?_)
  rw [off_piece]
  have hp : (peer d (.inl k)).val / 4 = d.val / 4 := by
    show (4 * (d.val / 4) + (d.val % 4 + k.val + 1) % 4) / 4 = d.val / 4
    omega
  fin_cases a
  · rfl
  · show 32 * (d.val / 4) + 1 * (x 0).val = 32 * ((peer d (.inl k)).val / 4) + (x 0).val
    rw [hp]; omega
  · show 256 * ((peer d (.inl k)).val % 4) + 1 * (x 1).val = 256 * ((peer d (.inl k)).val % 4) + (x 1).val
    omega

/-- What a device loads of its own piece is its argument's addends. -/
theorem own_at (c : Dev nD) (x : S32x256.Idx) : ownV m ρ c x = m ((c : Thread nD τ).loc main_arg0) (place c x) := by
  have hz : zeroRect.emb x = x := funext fun a => Fin.ext (by
    have h (a : Fin 2) : (zeroRect.emb x a).val = (![0, 0] : Fin 2 → ℕ) a + 1 * (x a).val := rfl
    rw [h]; fin_cases a
    · show 0 + 1 * (x 0).val = (x 0).val; omega
    · show 0 + 1 * (x 1).val = (x 1).val; omega)
  unfold ownV
  rw [xstg_eq, ← own_place, ← congrArg (ownM c).view.emb hz]
  rfl

/-- A slot's entry is the addend of the device that sent it. -/
theorem slot_val (c : Dev nD) (k : Fin 3) (x : S32x256.Idx) :
    slotV m ρ c k (Fin.cons ⟨0, Nat.one_pos⟩ x : S1x32x256.Idx) = m ((peer c (.inl k.rev) : Thread nD τ).loc main_arg0) (place c x) := by
  have h : slotV m ρ c k (Fin.cons ⟨0, Nat.one_pos⟩ x : S1x32x256.Idx) = scrAt m ρ c ((slotM k).view.emb x) := by
    rw [slot_emb]; rfl
  obtain ⟨h0, h1⟩ := slot_at k x
  rw [h]
  unfold scrAt
  rw [h1, h0]
  unfold zRead
  rw [xstg_eq]
  show m ((peer c (.inl k.rev) : Thread nD τ).loc main_arg0) ((pieceM (peer c (.inl k.rev)) k).view.emb x) = _
  rw [piece_place, show peer (peer c (.inl k.rev)) (.inl k) = c from peer_dual' c (.inl k)]

/-- A finished entry is the device's own addend and the three received ones, added in order of arrival. -/
theorem acc_at (c : Dev nD) (x : S32x256.Idx) :
    acc m ρ c x = FloatOps.addf (φ := .f32) (FloatOps.addf (φ := .f32) (FloatOps.addf (φ := .f32)
      (m ((c : Thread nD τ).loc main_arg0) (place c x))
      (m ((peer c (.inl 2) : Thread nD τ).loc main_arg0) (place c x)))
      (m ((peer c (.inl 1) : Thread nD τ).loc main_arg0) (place c x)))
      (m ((peer c (.inl 0) : Thread nD τ).loc main_arg0) (place c x)) := by
  have hs (k : Fin 3) : shapeCast S32x256 (slotV m ρ c k) shapeCasts_S1x32x256_S32x256 x
      = m ((peer c (.inl k.rev) : Thread nD τ).loc main_arg0) (place c x) := by
    rw [← slot_val m ρ, ← squeeze_idx]; rfl
  have h0 : shapeCast S32x256 (ownV m ρ c) shapeCasts_S32x256_S32x256 x = m ((c : Thread nD τ).loc main_arg0) (place c x) := by
    rw [← own_at m ρ]; exact congrArg (ownV m ρ c) (Shape.reshapeEquiv_self _ x)
  rw [show (2 : Fin 3) = Fin.rev 0 from rfl, ← h0, ← hs 0, show (1 : Fin 3) = Fin.rev 1 from rfl, ← hs 1,
    show peer c (.inl 0) = peer c (.inl (Fin.rev 2)) from rfl, ← hs 2]
  rfl

/-! ## Over exact numbers -/

/-- The whole argument's addends of one entry add up to the reference's entry, from whichever of the four one starts. -/
theorem sum_from (f : Fin 4 → EReal) (z a b d : Fin 4) (ha : a.val = (z.val + 3) % 4) (hb : b.val = (z.val + 2) % 4) (hd : d.val = (z.val + 1) % 4) :
    f z + f a + f b + f d = ∑ k, f k := by
  rw [Fin.sum_univ_four]
  fin_cases z
  · obtain rfl : a = 3 := Fin.ext ha
    obtain rfl : b = 2 := Fin.ext hb
    obtain rfl : d = 1 := Fin.ext hd
    show f 0 + f 3 + f 2 + f 1 = _
    ac_rfl
  · obtain rfl : a = 0 := Fin.ext ha
    obtain rfl : b = 3 := Fin.ext hb
    obtain rfl : d = 2 := Fin.ext hd
    show f 1 + f 0 + f 3 + f 2 = _
    ac_rfl
  · obtain rfl : a = 1 := Fin.ext ha
    obtain rfl : b = 0 := Fin.ext hb
    obtain rfl : d = 3 := Fin.ext hd
    show f 2 + f 1 + f 0 + f 3 = _
    ac_rfl
  · obtain rfl : a = 2 := Fin.ext ha
    obtain rfl : b = 1 := Fin.ext hb
    obtain rfl : d = 0 := Fin.ext hd
    show f 3 + f 2 + f 1 + f 0 = _
    ac_rfl

/-- The reference's result of a whole argument. -/
abbrev refOut (X : Cert.ReferenceIdeal.S4x256x1024.Idx → EReal) : Cert.ReferenceIdeal.S256x1024.Idx → EReal :=
  Host.reduceAdd (F := Ideal) (φ := .f32) X (constant (F := Ideal) Cert.ReferenceIdeal.S_ .f32 0x00000000#32)
    Cert.ReferenceIdeal.Gen.facts.reducesTo_S4x256x1024_S256x1024_d0 Cert.ReferenceIdeal.Gen.facts.h_S_

/-- An entry of the reference's result is the sum of the four entries it lies under. -/
theorem refOut_at (X : Cert.ReferenceIdeal.S4x256x1024.Idx → EReal) (j : Cert.ReferenceIdeal.S256x1024.Idx) :
    refOut X j = ∑ k : Fin 4, X (ix3 k (j 0) (j 1)) := by
  unfold refOut
  rw [Host.reduceAdd_apply, Ideal.hostReduceAdd_def, Ideal.hostReduceAdd_r3_a0]
  rw [show (constant (F := Ideal) Cert.ReferenceIdeal.S_ .f32 0x00000000#32) _ = (0 : EReal) from Ideal.ofBits_zero .f32, zero_add]
  rfl

/-- Each device's result is its column block of the reference's. -/
theorem out_eq (m : (ℓ : Loc nD τ sig) → Buf (Elt Ideal) ℓ) (X : Cert.ReferenceIdeal.S4x256x1024.Idx → EReal)
    (hX : ∀ c : Dev nD, m ((c : Thread nD τ).loc main_arg0)
      = Layout.blockN ⟨3, ![1, 256, 1024]⟩ ⟨3, ![4, 256, 1024]⟩ (Layout.meshBlock [2, 4, 4] ![[2], [], []] c) X) (c : Dev nD) :
    outAt (F := Ideal) m ρ c = Layout.blockN ⟨2, ![256, 256]⟩ ⟨2, ![256, 1024]⟩ (Layout.meshBlock [2, 4, 4] ![[], [2]] c) (refOut X) := by
  funext i
  have hi0 : (i 0).val < 256 := (i 0).isLt
  have hi1 : (i 1).val < 256 := (i 1).isLt
  set e : Cert.ReferenceIdeal.S256x1024.Idx := Layout.TilesN.idx (by decide) (Layout.meshBlock [2, 4, 4] ![[], [2]] c) i with he
  have he0 : (e 0).val = (i 0).val := by
    rw [he, Layout.TilesN.idx_val]
    show 0 * 256 + (i 0).val = (i 0).val
    omega
  have he1 : (e 1).val = 256 * (c.val % 4) + (i 1).val := by
    rw [he, Layout.TilesN.idx_val]
    show ((c.val / 1) % 4 * 1 + 0) * 256 + (i 1).val = _
    omega
  have key (s : Dev nD) (z : Fin 4) (hz : s.val % 4 = z.val) (x : S32x256.Idx) (hx0 : (x 0).val = (i 0).val % 32) (hx1 : (x 1).val = (i 1).val) :
      m ((s : Thread nD τ).loc main_arg0) (place (owner c (i 0)) x) = X (ix3 z (e 0) (e 1)) := by
    rw [hX s, Layout.blockN_apply]
    refine congrArg X (funext fun a => Fin.ext ?_)
    rw [Layout.TilesN.idx_val]
    have ho : (owner c (i 0)).val = 4 * ((i 0).val / 32) + c.val % 4 := rfl
    fin_cases a
    · show ((s.val / 1) % 4 * 1 + 0) * 1 + 0 = z.val
      omega
    · show 0 * 256 + (32 * ((owner c (i 0)).val / 4) + (x 0).val) = (e 0).val
      omega
    · show 0 * 1024 + (256 * ((owner c (i 0)).val % 4) + (x 1).val) = (e 1).val
      omega
  show acc m ρ (owner c (i 0)) (Shape.pair ⟨(i 0).val % 32, _⟩ (i 1)) = refOut X e
  rw [acc_at, refOut_at]
  have hp (k : Fin 3) : (peer (owner c (i 0)) (.inl k)).val % 4 = ((owner c (i 0)).val % 4 + k.val + 1) % 4 := by
    show (4 * ((owner c (i 0)).val / 4) + ((owner c (i 0)).val % 4 + k.val + 1) % 4) % 4 = _
    omega
  have hlt (n : ℕ) : n % 4 < 4 := Nat.mod_lt _ (by decide)
  rw [key (owner c (i 0)) ⟨_, hlt _⟩ rfl _ rfl rfl, key (peer (owner c (i 0)) (.inl 2)) ⟨_, hlt _⟩ (hp 2) _ rfl rfl,
    key (peer (owner c (i 0)) (.inl 1)) ⟨_, hlt _⟩ (hp 1) _ rfl rfl, key (peer (owner c (i 0)) (.inl 0)) ⟨_, hlt _⟩ (hp 0) _ rfl rfl]
  exact sum_from (fun k => X (ix3 k (e 0) (e 1))) _ _ _ _ rfl rfl rfl

end Cert.KernelIdeal.Coll

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Value
public import Idealize.ShloMosaic.Adequacy
public import Idealize.ShloMosaic.Init

@[expose] public section

noncomputable section

namespace Cert.Proof

open Idealize.ShloMosaic Idealize.SL.Sem Cert.Kernel

/-- The kernel's frame, on bit patterns: its run (`run_main`) keeps the argument and ends with every counter at zero. -/
theorem frame_kernel : Cert.quiescent_Kernel := fun m ρ _ =>
  (θ_run Cert.Kernel.defs _ _).mono (fun _ h => ⟨fun c => (h.1 c (0 : Fin 2)).trans (Cert.Kernel.Coll.finalA_x m ρ c), h.2⟩)
    (Cert.Kernel.Coll.run_main (F := Bits) m ρ)

/-- The same over exact numbers. -/
theorem frame_kernelIdeal : Cert.quiescent_KernelIdeal := fun m ρ _ =>
  (θ_run Cert.KernelIdeal.defs _ _).mono (fun _ h => ⟨fun c => (h.1 c (0 : Fin 2)).trans (Cert.KernelIdeal.Coll.finalA_x m ρ c), h.2⟩)
    (Cert.KernelIdeal.Coll.run_main (F := Ideal) m ρ)

/-- The reference is a host program without semaphores: its run keeps the argument. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over exact numbers every device's result is its column block of the sum of the whole argument over its leading axis. -/
theorem value : Cert.algebraic_KernelIdeal_ReferenceIdeal := fun m ρ m' ρ' _ hX =>
  ⟨Cert.KernelIdeal.Coll.refOut (m' (((0 : Dev Cert.ReferenceIdeal.nD).tc : Thread Cert.ReferenceIdeal.nD Cert.ReferenceIdeal.τ).loc Cert.ReferenceIdeal.main_arg0)),
    (θ_run Cert.KernelIdeal.defs _ _).mono (fun _ h c =>
        ⟨((h.1 c (1 : Fin 2)).trans (Cert.KernelIdeal.Coll.finalA_o m ρ c)).trans (Cert.KernelIdeal.Coll.out_eq ρ m _ hX c),
          (h.1 c (0 : Fin 2)).trans (Cert.KernelIdeal.Coll.finalA_x m ρ c)⟩)
      (Cert.KernelIdeal.Coll.run_main (F := Ideal) m ρ),
    (θ_run Cert.ReferenceIdeal.defs _ _).mono (fun _ h => h 0) (Cert.ReferenceIdeal.Value.run (F := Ideal) m' ρ')⟩

/-- All five claims: the three frames, the ideal kernel is the kernel (nothing was rewritten), and the value. -/
theorem claim : Cert.Claim := ⟨Cert.Kernel.Gen.facts, Cert.KernelIdeal.Gen.facts, Cert.ReferenceIdeal.Gen.facts,
  frame_kernel, frame_kernelIdeal, frame_reference, trivial, value⟩

end Cert.Proof

end
